-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S2x256x1024 : Shape := ⟨3, ![2, 256, 1024]⟩
abbrev S15x256x1024 : Shape := ⟨3, ![15, 256, 1024]⟩
abbrev S15x2 : Shape := ⟨2, ![15, 2]⟩
abbrev S_ : Shape := ⟨0, ![]⟩
abbrev S128x256 : Shape := ⟨2, ![128, 256]⟩
abbrev S256x1024 : Shape := ⟨2, ![256, 1024]⟩
abbrev S128x1024 : Shape := ⟨2, ![128, 1024]⟩
abbrev S1x128x1024 : Shape := ⟨3, ![1, 128, 1024]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S256x2048, .f32⟩
  | .local _ .vmem, ⟨0, _⟩ => ⟨S4096x256, .bf16⟩
  | .local _ .vmem, ⟨1, _⟩ => ⟨S256x2048, .bf16⟩
  | .local _ .vmem, ⟨2, _⟩ => ⟨S256x2048, .f32⟩
  | .local _ .vmem, ⟨3, _⟩ => ⟨S2x256x1024, .bf16⟩
  | .local _ .vmem, ⟨4, _⟩ => ⟨S2x256x1024, .bf16⟩
  | .local _ .vmem, ⟨5, _⟩ => ⟨S15x256x1024, .bf16⟩
  | .local _ .vmem, ⟨6, _⟩ => ⟨S15x256x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) (c1_i32_10 : BitVec 32) (c0_i32_15 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.subi v2 c1_i32_10
  let c16_i32_11 : BitVec 32 := 16#32
  let v14 : BitVec 32 := Scalar.addi v13 c16_i32_11
  let c16_i32_12 : BitVec 32 := 16#32
  let v15 : BitVec 32 := Scalar.remsi v14 c16_i32_12
  let c256_i32 : BitVec 32 := 256#32
  let v18 : BitVec 32 := Scalar.muli v15 c256_i32
  let v19 : BitVec 32 := Scalar.addi v18 c0_i32_15
  let v20 : Index := Scalar.indexCast v19
  let c0 : Index := 0#32
  ![v20.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_27 : BitVec 32 := 1#32
  let v30 : BitVec 32 := Scalar.muli v4 c1_i32_27
  let v31 : BitVec 32 := Scalar.addi c0_i32_28 v30
  v31.toNat
def k0_off2 (d0 : Dev nD) (c1_i32_13 : BitVec 32) (c0_i32_34 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 32 := Scalar.addi v2 c1_i32_13
  let c16_i32_14 : BitVec 32 := 16#32
  let v17 : BitVec 32 := Scalar.remsi v16 c16_i32_14
  let c256_i32_33 : BitVec 32 := 256#32
  let v40 : BitVec 32 := Scalar.muli v17 c256_i32_33
  let v41 : BitVec 32 := Scalar.addi v40 c0_i32_34
  let v42 : Index := Scalar.indexCast v41
  let c0_35 : Index := 0#32
  ![v42.toNat, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_47 : BitVec 32 := 1#32
  let v52 : BitVec 32 := Scalar.muli v7 c1_i32_47
  let v53 : BitVec 32 := Scalar.addi c0_i32_48 v52
  v53.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_66 : BitVec 32 := 1#32
  let v74 : BitVec 32 := Scalar.muli v4 c1_i32_66
  let v75 : BitVec 32 := Scalar.addi c0_i32_67 v74
  v75.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_87 : BitVec 32 := 1#32
  let v96 : BitVec 32 := Scalar.muli v7 c1_i32_87
  let v97 : BitVec 32 := Scalar.addi c0_i32_88 v96
  v97.toNat
def k0_off3 (d0 : Dev nD) (c1_i32_122 : BitVec 32) (c0_i32_129 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v143 : BitVec 32 := Scalar.subi v2 c1_i32_122
  let c2_i32_123 : BitVec 32 := 2#32
  let v144 : BitVec 32 := Scalar.subi v143 c2_i32_123
  let c32_i32 : BitVec 32 := 32#32
  let v145 : BitVec 32 := Scalar.addi v144 c32_i32
  let c16_i32_124 : BitVec 32 := 16#32
  let v146 : BitVec 32 := Scalar.remsi v145 c16_i32_124
  let c256_i32_128 : BitVec 32 := 256#32
  let v150 : BitVec 32 := Scalar.muli v146 c256_i32_128
  let v151 : BitVec 32 := Scalar.addi v150 c0_i32_129
  let v152 : Index := Scalar.indexCast v151
  let c0_130 : Index := 0#32
  ![v152.toNat, 0]
def k0_off4 (d0 : Dev nD) (c1_i32_125 : BitVec 32) (c0_i32_141 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v147 : BitVec 32 := Scalar.addi v2 c1_i32_125
  let c2_i32_126 : BitVec 32 := 2#32
  let v148 : BitVec 32 := Scalar.addi v147 c2_i32_126
  let c16_i32_127 : BitVec 32 := 16#32
  let v149 : BitVec 32 := Scalar.remsi v148 c16_i32_127
  let c256_i32_140 : BitVec 32 := 256#32
  let v166 : BitVec 32 := Scalar.muli v149 c256_i32_140
  let v167 : BitVec 32 := Scalar.addi v166 c0_i32_141
  let v168 : Index := Scalar.indexCast v167
  let c0_142 : Index := 0#32
  ![v168.toNat, 0]
def k0_dev7 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_175 : BitVec 32 := 1#32
  let v198 : BitVec 32 := Scalar.muli v4 c1_i32_175
  let v199 : BitVec 32 := Scalar.addi c0_i32_176 v198
  v199.toNat
def k0_dev8 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_205 : BitVec 32 := 1#32
  let v224 : BitVec 32 := Scalar.muli v7 c1_i32_205
  let v225 : BitVec 32 := Scalar.addi c0_i32_206 v224
  v225.toNat
def k0_dev9 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_235 : BitVec 32 := 1#32
  let v250 : BitVec 32 := Scalar.muli v4 c1_i32_235
  let v251 : BitVec 32 := Scalar.addi c0_i32_236 v250
  v251.toNat
def k0_dev10 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_265 : BitVec 32 := 1#32
  let v276 : BitVec 32 := Scalar.muli v7 c1_i32_265
  let v277 : BitVec 32 := Scalar.addi c0_i32_266 v276
  v277.toNat
def k0_dev11 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_348 : BitVec 32 := 1#32
  let v353 : BitVec 32 := Scalar.muli v4 c1_i32_348
  let v354 : BitVec 32 := Scalar.addi c0_i32_349 v353
  v354.toNat
def k0_dev12 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_378 : BitVec 32 := 1#32
  let v379 : BitVec 32 := Scalar.muli v7 c1_i32_378
  let v380 : BitVec 32 := Scalar.addi c0_i32_379 v379
  v380.toNat
def k0_dev13 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_430 : BitVec 32 := 1#32
  let v417 : BitVec 32 := Scalar.muli v4 c1_i32_430
  let v418 : BitVec 32 := Scalar.addi c0_i32_431 v417
  v418.toNat
def k0_dev14 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_460 : BitVec 32 := 1#32
  let v443 : BitVec 32 := Scalar.muli v7 c1_i32_460
  let v444 : BitVec 32 := Scalar.addi c0_i32_461 v443
  v444.toNat
def k0_dev15 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_541 : BitVec 32 := 1#32
  let v520 : BitVec 32 := Scalar.muli v4 c1_i32_541
  let v521 : BitVec 32 := Scalar.addi c0_i32_542 v520
  v521.toNat
def k0_dev16 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_571 : BitVec 32 := 1#32
  let v546 : BitVec 32 := Scalar.muli v7 c1_i32_571
  let v547 : BitVec 32 := Scalar.addi c0_i32_572 v546
  v547.toNat
def k0_dev17 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_623 : BitVec 32 := 1#32
  let v584 : BitVec 32 := Scalar.muli v4 c1_i32_623
  let v585 : BitVec 32 := Scalar.addi c0_i32_624 v584
  v585.toNat
def k0_dev18 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_653 : BitVec 32 := 1#32
  let v610 : BitVec 32 := Scalar.muli v7 c1_i32_653
  let v611 : BitVec 32 := Scalar.addi c0_i32_654 v610
  v611.toNat
def k0_dev19 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_734 : BitVec 32 := 1#32
  let v687 : BitVec 32 := Scalar.muli v4 c1_i32_734
  let v688 : BitVec 32 := Scalar.addi c0_i32_735 v687
  v688.toNat
def k0_dev20 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_764 : BitVec 32 := 1#32
  let v713 : BitVec 32 := Scalar.muli v7 c1_i32_764
  let v714 : BitVec 32 := Scalar.addi c0_i32_765 v713
  v714.toNat
def k0_dev21 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_816 : BitVec 32 := 1#32
  let v751 : BitVec 32 := Scalar.muli v4 c1_i32_816
  let v752 : BitVec 32 := Scalar.addi c0_i32_817 v751
  v752.toNat
def k0_dev22 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_846 : BitVec 32 := 1#32
  let v777 : BitVec 32 := Scalar.muli v7 c1_i32_846
  let v778 : BitVec 32 := Scalar.addi c0_i32_847 v777
  v778.toNat
def k0_dev23 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_927 : BitVec 32 := 1#32
  let v854 : BitVec 32 := Scalar.muli v4 c1_i32_927
  let v855 : BitVec 32 := Scalar.addi c0_i32_928 v854
  v855.toNat
def k0_dev24 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_957 : BitVec 32 := 1#32
  let v880 : BitVec 32 := Scalar.muli v7 c1_i32_957
  let v881 : BitVec 32 := Scalar.addi c0_i32_958 v880
  v881.toNat
def k0_dev25 (d0 : Dev nD) : Nat :=
  let c0_i32_1010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1009 : BitVec 32 := 1#32
  let v918 : BitVec 32 := Scalar.muli v4 c1_i32_1009
  let v919 : BitVec 32 := Scalar.addi c0_i32_1010 v918
  v919.toNat
def k0_dev26 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1039 : BitVec 32 := 1#32
  let v944 : BitVec 32 := Scalar.muli v7 c1_i32_1039
  let v945 : BitVec 32 := Scalar.addi c0_i32_1040 v944
  v945.toNat
def k0_dev27 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1120 : BitVec 32 := 1#32
  let v1021 : BitVec 32 := Scalar.muli v4 c1_i32_1120
  let v1022 : BitVec 32 := Scalar.addi c0_i32_1121 v1021
  v1022.toNat
def k0_dev28 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1150 : BitVec 32 := 1#32
  let v1047 : BitVec 32 := Scalar.muli v7 c1_i32_1150
  let v1048 : BitVec 32 := Scalar.addi c0_i32_1151 v1047
  v1048.toNat
def k0_dev29 (d0 : Dev nD) : Nat :=
  let c0_i32_1203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1202 : BitVec 32 := 1#32
  let v1085 : BitVec 32 := Scalar.muli v4 c1_i32_1202
  let v1086 : BitVec 32 := Scalar.addi c0_i32_1203 v1085
  v1086.toNat
def k0_dev30 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1232 : BitVec 32 := 1#32
  let v1111 : BitVec 32 := Scalar.muli v7 c1_i32_1232
  let v1112 : BitVec 32 := Scalar.addi c0_i32_1233 v1111
  v1112.toNat
def k0_dev31 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1313 : BitVec 32 := 1#32
  let v1188 : BitVec 32 := Scalar.muli v4 c1_i32_1313
  let v1189 : BitVec 32 := Scalar.addi c0_i32_1314 v1188
  v1189.toNat
def k0_dev32 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1343 : BitVec 32 := 1#32
  let v1214 : BitVec 32 := Scalar.muli v7 c1_i32_1343
  let v1215 : BitVec 32 := Scalar.addi c0_i32_1344 v1214
  v1215.toNat
def k0_dev33 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1395 : BitVec 32 := 1#32
  let v1252 : BitVec 32 := Scalar.muli v4 c1_i32_1395
  let v1253 : BitVec 32 := Scalar.addi c0_i32_1396 v1252
  v1253.toNat
def k0_dev34 (d0 : Dev nD) : Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1425 : BitVec 32 := 1#32
  let v1278 : BitVec 32 := Scalar.muli v7 c1_i32_1425
  let v1279 : BitVec 32 := Scalar.addi c0_i32_1426 v1278
  v1279.toNat
def k0_dev35 (d0 : Dev nD) : Nat :=
  let c0_i32_1507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1506 : BitVec 32 := 1#32
  let v1355 : BitVec 32 := Scalar.muli v4 c1_i32_1506
  let v1356 : BitVec 32 := Scalar.addi c0_i32_1507 v1355
  v1356.toNat
def k0_dev36 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1536 : BitVec 32 := 1#32
  let v1381 : BitVec 32 := Scalar.muli v7 c1_i32_1536
  let v1382 : BitVec 32 := Scalar.addi c0_i32_1537 v1381
  v1382.toNat
def k0_dev37 (d0 : Dev nD) : Nat :=
  let c0_i32_1589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1588 : BitVec 32 := 1#32
  let v1419 : BitVec 32 := Scalar.muli v4 c1_i32_1588
  let v1420 : BitVec 32 := Scalar.addi c0_i32_1589 v1419
  v1420.toNat
def k0_dev38 (d0 : Dev nD) : Nat :=
  let c0_i32_1619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1618 : BitVec 32 := 1#32
  let v1445 : BitVec 32 := Scalar.muli v7 c1_i32_1618
  let v1446 : BitVec 32 := Scalar.addi c0_i32_1619 v1445
  v1446.toNat
def k0_dev39 (d0 : Dev nD) : Nat :=
  let c0_i32_1700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1699 : BitVec 32 := 1#32
  let v1522 : BitVec 32 := Scalar.muli v4 c1_i32_1699
  let v1523 : BitVec 32 := Scalar.addi c0_i32_1700 v1522
  v1523.toNat
def k0_dev40 (d0 : Dev nD) : Nat :=
  let c0_i32_1730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1729 : BitVec 32 := 1#32
  let v1548 : BitVec 32 := Scalar.muli v7 c1_i32_1729
  let v1549 : BitVec 32 := Scalar.addi c0_i32_1730 v1548
  v1549.toNat
def k0_dev41 (d0 : Dev nD) : Nat :=
  let c0_i32_1782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1781 : BitVec 32 := 1#32
  let v1586 : BitVec 32 := Scalar.muli v4 c1_i32_1781
  let v1587 : BitVec 32 := Scalar.addi c0_i32_1782 v1586
  v1587.toNat
def k0_dev42 (d0 : Dev nD) : Nat :=
  let c0_i32_1812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1811 : BitVec 32 := 1#32
  let v1612 : BitVec 32 := Scalar.muli v7 c1_i32_1811
  let v1613 : BitVec 32 := Scalar.addi c0_i32_1812 v1612
  v1613.toNat
def k0_dev43 (d0 : Dev nD) : Nat :=
  let c0_i32_1893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1892 : BitVec 32 := 1#32
  let v1689 : BitVec 32 := Scalar.muli v4 c1_i32_1892
  let v1690 : BitVec 32 := Scalar.addi c0_i32_1893 v1689
  v1690.toNat
def k0_dev44 (d0 : Dev nD) : Nat :=
  let c0_i32_1923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1922 : BitVec 32 := 1#32
  let v1715 : BitVec 32 := Scalar.muli v7 c1_i32_1922
  let v1716 : BitVec 32 := Scalar.addi c0_i32_1923 v1715
  v1716.toNat
def k0_dev45 (d0 : Dev nD) : Nat :=
  let c0_i32_1975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1974 : BitVec 32 := 1#32
  let v1753 : BitVec 32 := Scalar.muli v4 c1_i32_1974
  let v1754 : BitVec 32 := Scalar.addi c0_i32_1975 v1753
  v1754.toNat
def k0_dev46 (d0 : Dev nD) : Nat :=
  let c0_i32_2005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2004 : BitVec 32 := 1#32
  let v1779 : BitVec 32 := Scalar.muli v7 c1_i32_2004
  let v1780 : BitVec 32 := Scalar.addi c0_i32_2005 v1779
  v1780.toNat
def k0_dev47 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2085 : BitVec 32 := 1#32
  let v1856 : BitVec 32 := Scalar.muli v4 c1_i32_2085
  let v1857 : BitVec 32 := Scalar.addi c0_i32_2086 v1856
  v1857.toNat
def k0_dev48 (d0 : Dev nD) : Nat :=
  let c0_i32_2116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2115 : BitVec 32 := 1#32
  let v1882 : BitVec 32 := Scalar.muli v7 c1_i32_2115
  let v1883 : BitVec 32 := Scalar.addi c0_i32_2116 v1882
  v1883.toNat
def k0_dev49 (d0 : Dev nD) : Nat :=
  let c0_i32_2168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2167 : BitVec 32 := 1#32
  let v1920 : BitVec 32 := Scalar.muli v4 c1_i32_2167
  let v1921 : BitVec 32 := Scalar.addi c0_i32_2168 v1920
  v1921.toNat
def k0_dev50 (d0 : Dev nD) : Nat :=
  let c0_i32_2198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2197 : BitVec 32 := 1#32
  let v1946 : BitVec 32 := Scalar.muli v7 c1_i32_2197
  let v1947 : BitVec 32 := Scalar.addi c0_i32_2198 v1946
  v1947.toNat
def k0_dev51 (d0 : Dev nD) : Nat :=
  let c0_i32_2279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2278 : BitVec 32 := 1#32
  let v2023 : BitVec 32 := Scalar.muli v4 c1_i32_2278
  let v2024 : BitVec 32 := Scalar.addi c0_i32_2279 v2023
  v2024.toNat
def k0_dev52 (d0 : Dev nD) : Nat :=
  let c0_i32_2309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2308 : BitVec 32 := 1#32
  let v2049 : BitVec 32 := Scalar.muli v7 c1_i32_2308
  let v2050 : BitVec 32 := Scalar.addi c0_i32_2309 v2049
  v2050.toNat
def k0_dev53 (d0 : Dev nD) : Nat :=
  let c0_i32_2361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2360 : BitVec 32 := 1#32
  let v2087 : BitVec 32 := Scalar.muli v4 c1_i32_2360
  let v2088 : BitVec 32 := Scalar.addi c0_i32_2361 v2087
  v2088.toNat
def k0_dev54 (d0 : Dev nD) : Nat :=
  let c0_i32_2391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2390 : BitVec 32 := 1#32
  let v2113 : BitVec 32 := Scalar.muli v7 c1_i32_2390
  let v2114 : BitVec 32 := Scalar.addi c0_i32_2391 v2113
  v2114.toNat
def k0_dev55 (d0 : Dev nD) : Nat :=
  let c0_i32_2472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2471 : BitVec 32 := 1#32
  let v2190 : BitVec 32 := Scalar.muli v4 c1_i32_2471
  let v2191 : BitVec 32 := Scalar.addi c0_i32_2472 v2190
  v2191.toNat
def k0_dev56 (d0 : Dev nD) : Nat :=
  let c0_i32_2502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2501 : BitVec 32 := 1#32
  let v2216 : BitVec 32 := Scalar.muli v7 c1_i32_2501
  let v2217 : BitVec 32 := Scalar.addi c0_i32_2502 v2216
  v2217.toNat
def k0_dev57 (d0 : Dev nD) : Nat :=
  let c0_i32_2554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2553 : BitVec 32 := 1#32
  let v2254 : BitVec 32 := Scalar.muli v4 c1_i32_2553
  let v2255 : BitVec 32 := Scalar.addi c0_i32_2554 v2254
  v2255.toNat
def k0_dev58 (d0 : Dev nD) : Nat :=
  let c0_i32_2584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2583 : BitVec 32 := 1#32
  let v2280 : BitVec 32 := Scalar.muli v7 c1_i32_2583
  let v2281 : BitVec 32 := Scalar.addi c0_i32_2584 v2280
  v2281.toNat
def k0_off5 (d0 : Dev nD) (c0_i32_2590 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2589 : BitVec 32 := 256#32
  let v2290 : BitVec 32 := Scalar.muli v2 c256_i32_2589
  let v2291 : BitVec 32 := Scalar.addi v2290 c0_i32_2590
  let v2292 : Index := Scalar.indexCast v2291
  let c0_2591 : Index := 0#32
  ![v2292.toNat, 0]
def k0_dev59 (d0 : Dev nD) : Nat :=
  let c0_i32_2658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2657 : BitVec 32 := 1#32
  let v2350 : BitVec 32 := Scalar.muli v4 c1_i32_2657
  let v2351 : BitVec 32 := Scalar.addi c0_i32_2658 v2350
  v2351.toNat
def k0_dev60 (d0 : Dev nD) : Nat :=
  let c0_i32_2688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2687 : BitVec 32 := 1#32
  let v2376 : BitVec 32 := Scalar.muli v7 c1_i32_2687
  let v2377 : BitVec 32 := Scalar.addi c0_i32_2688 v2376
  v2377.toNat
def k0_dev61 (d0 : Dev nD) : Nat :=
  let c0_i32_2740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2739 : BitVec 32 := 1#32
  let v2414 : BitVec 32 := Scalar.muli v4 c1_i32_2739
  let v2415 : BitVec 32 := Scalar.addi c0_i32_2740 v2414
  v2415.toNat
def k0_dev62 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2769 : BitVec 32 := 1#32
  let v2440 : BitVec 32 := Scalar.muli v7 c1_i32_2769
  let v2441 : BitVec 32 := Scalar.addi c0_i32_2770 v2440
  v2441.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Program.lean ====
/- The kernel's body written as a program with a loop over the ring's steps, and the printed body equal to it. -/
module

public import proofs.«01_k».proof.Proof.Gen.KernelIdeal.Skeleton

@[expose] public section

noncomputable section

namespace Cert.RingProof

open Cert.KernelIdeal Cert.KernelIdeal.Gen
open Idealize.ShloMosaic Idealize.SL.Sem

variable {F : FTy → Type} [FloatOps F]

/-! ## Rectangles and offsets -/

/-- The rows a device's product number `t` (forwards) reads of its `x` block, as the kernel computes them. -/
def offF (d : Dev nD) (t k : ℕ) : Fin 2 → ℕ :=
  bif Nat.blt t 2 then k0_off1 d (BitVec.ofNat 32 (1 + t)) (BitVec.ofNat 32 (128 * k))
  else bif Nat.blt t 15 then k0_off3 d (BitVec.ofNat 32 (t - 1)) (BitVec.ofNat 32 (128 * k))
  else k0_off5 d (BitVec.ofNat 32 (128 * k))

/-- The same backwards. -/
def offB (d : Dev nD) (t k : ℕ) : Fin 2 → ℕ :=
  bif Nat.blt t 2 then k0_off2 d (BitVec.ofNat 32 (1 + t)) (BitVec.ofNat 32 (128 * k))
  else bif Nat.blt t 15 then k0_off4 d (BitVec.ofNat 32 (t - 1)) (BitVec.ofNat 32 (128 * k))
  else k0_off5 d (BitVec.ofNat 32 (128 * k))

/-- Forwards (`false`) or backwards (`true`). -/
def off (d : Dev nD) (dir : Bool) (t k : ℕ) : Fin 2 → ℕ := match dir with
  | false => offF d t k
  | true => offB d t k

/-- The chunk of rows that product `t` multiplies: forwards `d - 1 - t`, backwards `d + 1 + t`, modulo 16. -/
def chunk (d : Dev nD) (dir : Bool) (t : ℕ) : ℕ := match dir with
  | false => (d.val + 31 - t) % 16
  | true => (d.val + 1 + t) % 16

/-- The row offset of a product: its chunk's 256 rows, and 128 more for the second group. -/
theorem off_eq (d : Dev nD) (dir : Bool) (t : Fin 16) (k : Fin 2) :
    off d dir t.val k.val = ![256 * chunk d dir t.val + 128 * k.val, 0] := by
  revert d dir t k; decide +kernel

/-- The 128 rows a product multiplies lie within `x`. -/
theorem off_inb (d : Dev nD) (dir : Bool) (t : Fin 16) (k : Fin 2) :
    ∀ a, off d dir t.val k.val a + S128x256.size a ≤ S4096x256.size a := by
  rw [off_eq]; revert d dir t k; decide +kernel

/-- Columns of `w` (and of the result): the first half forwards, the second backwards. -/
def half (dir : Bool) : ℕ := match dir with
  | false => 0
  | true => 1024

/-- Each half of the columns lies within `w`. -/
theorem half_inb (dir : Bool) : ∀ a, (![0, half dir] : Fin 2 → ℕ) a + S256x1024.size a ≤ S256x2048.size a := by
  revert dir; decide
/-- Each of the four blocks of the result lies within it. -/
theorem out_inb (dir : Bool) (k : Fin 2) : ∀ a, (![128 * k.val, half dir] : Fin 2 → ℕ) a + S128x1024.size a ≤ S256x2048.size a := by
  revert dir k; decide
/-- Each slot lies within a send buffer. -/
theorem send_inb (s : Fin 15) (k : Fin 2) : ∀ a, (![s.val % 2, 128 * k.val, 0] : Fin 3 → ℕ) a + S1x128x1024.size a ≤ S2x256x1024.size a := by
  revert s k; decide
/-- Each piece lies within a receive buffer. -/
theorem recv_inb (s : Fin 15) (k : Fin 2) : ∀ a, (![s.val, 128 * k.val, 0] : Fin 3 → ℕ) a + S1x128x1024.size a ≤ S15x256x1024.size a := by
  revert s k; decide
/-- Each transfer's semaphore lies within its array. -/
theorem sem_inb (s : Fin 15) (k : Fin 2) : ∀ a, (![s.val, k.val] : Fin 2 → ℕ) a + S1x1.size a ≤ S15x2.size a := by
  revert s k; decide

abbrev rSend (s : Fin 15) (k : Fin 2) : Rect S2x256x1024 := Rect.unit (s := S2x256x1024) ![s.val % 2, 128 * k.val, 0] S1x128x1024.size (send_inb s k)
abbrev rRecv (s : Fin 15) (k : Fin 2) : Rect S15x256x1024 := Rect.unit (s := S15x256x1024) ![s.val, 128 * k.val, 0] S1x128x1024.size (recv_inb s k)
abbrev rSem (s : Fin 15) (k : Fin 2) : Rect S15x2 := Rect.unit (s := S15x2) ![s.val, k.val] S1x1.size (sem_inb s k)
abbrev rX (d : Dev nD) (dir : Bool) (t : Fin 16) (k : Fin 2) : Rect S4096x256 := Rect.unit (s := S4096x256) (off d dir t.val k.val) S128x256.size (off_inb d dir t k)
abbrev rW (dir : Bool) : Rect S256x2048 := Rect.unit (s := S256x2048) ![0, half dir] S256x1024.size (half_inb dir)
abbrev rOut (dir : Bool) (k : Fin 2) : Rect S256x2048 := Rect.unit (s := S256x2048) ![128 * k.val, half dir] S128x1024.size (out_inb dir k)

/-- A slot of a send buffer consists of whole packed rows. -/
theorem send_packed (s : Fin 15) (k : Fin 2) : (rSend s k).PackedRows (EltTy.packing .bf16) := by
  revert s k; decide
/-- A slot of a send buffer consists of whole words. -/
theorem send_words (s : Fin 15) (k : Fin 2) : (rSend s k).WholeWords (EltTy.packing .bf16) := by
  revert s k; decide
/-- A piece of a receive buffer consists of whole words. -/
theorem recv_words (s : Fin 15) (k : Fin 2) : (rRecv s k).WholeWords (EltTy.packing .bf16) := by
  revert s k; decide

/-! ## The memrefs and semaphores -/

abbrev xM : Memref sig .tc .vmem S4096x256 .bf16 := Memref.whole cc0_stg0_0
abbrev wM : Memref sig .tc .vmem S256x2048 .bf16 := Memref.whole cc0_stg1_0
abbrev oM : Memref sig .tc .vmem S256x2048 .f32 := Memref.whole cc0_stg2_0

/-- The buffer a direction's sums are sent from, and the one they land in. -/
def sM (dir : Bool) : Memref sig .tc .vmem S2x256x1024 .bf16 := match dir with
  | false => Memref.whole cc0_scratch0
  | true => Memref.whole cc0_scratch1
def rM (dir : Bool) : Memref sig .tc .vmem S15x256x1024 .bf16 := match dir with
  | false => Memref.whole cc0_scratch2
  | true => Memref.whole cc0_scratch3
/-- A send buffer's reference covers the whole buffer. -/
theorem sM_whole (dir : Bool) : (sM dir).IsWhole := by cases dir <;> exact Memref.isWhole_whole _
/-- A receive buffer's reference covers the whole buffer. -/
theorem rM_whole (dir : Bool) : (rM dir).IsWhole := by cases dir <;> exact Memref.isWhole_whole _

/-- The semaphores its sends and its landings are counted on. -/
def sendSems (dir : Bool) : DmaSems sig S15x2 := match dir with
  | false => cc0_scratch4
  | true => cc0_scratch5
def recvSems (dir : Bool) : DmaSems sig S15x2 := match dir with
  | false => cc0_scratch6
  | true => cc0_scratch7

abbrev barS : Sem sig := (SemArray.scalar (sig.barrier 0 rfl) : Sems sig S_).sem
abbrev sendS (dir : Bool) (s : Fin 15) (k : Fin 2) : DmaSem sig := (((sendSems dir).slice (rSem s k)).squeeze S_ squeezes_S1x1_S_).sem
abbrev recvS (dir : Bool) (s : Fin 15) (k : Fin 2) : DmaSem sig := (((recvSems dir).slice (rSem s k)).squeeze S_ squeezes_S1x1_S_).sem

/-- The rows a send reads, and those it lands in. -/
abbrev sSl (dir : Bool) (s : Fin 15) (k : Fin 2) : Memref sig .tc .vmem S128x1024 .bf16 :=
  ((sM dir).slice (rSend s k) (fun _ => rfl)).squeeze S128x1024 squeezes_S1x128x1024_S128x1024
abbrev rSl (dir : Bool) (s : Fin 15) (k : Fin 2) : Memref sig .tc .vmem S128x1024 .bf16 :=
  ((rM dir).slice (rRecv s k) (fun _ => rfl)).squeeze S128x1024 squeezes_S1x128x1024_S128x1024

/-- The view of a slot consists of whole words. -/
theorem sSl_words (dir : Bool) (s : Fin 15) (k : Fin 2) : (sSl dir s k).view.WordExact :=
  ((sM_whole dir).wordExact_slice rfl _ (send_words s k)).reshape _ _
/-- The view of a piece consists of whole words. -/
theorem rSl_words (dir : Bool) (s : Fin 15) (k : Fin 2) : (rSl dir s k).view.WordExact :=
  ((rM_whole dir).wordExact_slice rfl _ (recv_words s k)).reshape _ _

/-- The device a direction sends to: the next one forwards, the one before backwards. -/
def peer (d : Dev nD) (dir : Bool) : Dev nD := match dir with
  | false => ⟨k0_dev3 d, k0_dev3_lt d⟩
  | true => ⟨k0_dev4 d, k0_dev4_lt d⟩

/-! ## The values computed -/

/-- One product of 128 rows by half of `w`. -/
def mm (x : Vec F S128x256 .bf16) (w : Vec F S256x1024 .bf16) : FVec F S128x1024 .f32 :=
  matmul dot_S128x256_S256x1024_S128x1024_1_0_0_1_n_n none (shapeCast S128x256 x shapeCasts_S128x256_S128x256 : FVec F S128x256 .bf16)
    (shapeCast S256x1024 w shapeCasts_S256x1024_S256x1024 : FVec F S256x1024 .bf16) (constant S128x1024 .f32 0x00000000#32)

/-- The running sum: what landed, widened, plus this device's product. -/
def addUp (r : Vec F S1x128x1024 .bf16) (m : FVec F S128x1024 .f32) : FVec F S128x1024 .f32 :=
  addf (extf .f32 (shapeCast S128x1024 r shapeCasts_S1x128x1024_S128x1024 : FVec F S128x1024 .bf16) bitsLt_bf16_f32) m

/-- A sum as it is sent. -/
def pack (m : FVec F S128x1024 .f32) : FVec F S1x128x1024 .bf16 :=
  shapeCast S1x128x1024 (truncf .bf16 m bitsLt_bf16_f32 : FVec F S128x1024 .bf16) shapeCasts_S128x1024_S1x128x1024

/-- The four products of one step. -/
structure Dots (F : FTy → Type) where
  f0 : FVec F S128x1024 .f32
  f1 : FVec F S128x1024 .f32
  b0 : FVec F S128x1024 .f32
  b1 : FVec F S128x1024 .f32

/-! ## The pieces of the body -/

abbrev P (F : FTy → Type) (α : Type) := Prog (TpuEff nD τ sig (Elt F) Λ₀ .tc) α

/-- Product number `t` of device `d`. -/
def dotP (d : Dev nD) (dir : Bool) (t : Fin 16) (k : Fin 2) {α : Type} (K : FVec F S128x1024 .f32 → P F α) : P F α :=
  .op (.load xM (rX d dir t k).toLoadRect (View.loadsAt_vmem h_S128x256)) fun x =>
  .op (.load wM (rW dir).toLoadRect (View.loadsAt_vmem h_S256x1024)) fun w => K (mm x w)

def dotsP (d : Dev nD) (t : Fin 16) {α : Type} (K : Dots F → P F α) : P F α :=
  dotP d false t 0 fun f0 => dotP d false t 1 fun f1 => dotP d true t 0 fun b0 => dotP d true t 1 fun b1 => K ⟨f0, f1, b0, b1⟩

/-- Put a sum in its slot and start its copy to the neighbour. -/
def sendP (d : Dev nD) (dir : Bool) (s : Fin 15) (k : Fin 2) (v : FVec F S128x1024 .f32) {α : Type} (K : P F α) : P F α :=
  .op (.load (sM dir) (rSend s k).toLoadRect (View.loadsAt_vmem h_S1x128x1024)) fun _ =>
  .op (.store (sM dir) (rSend s k) (pack v) Finset.univ (View.stores_vmem h_S1x128x1024 ((sM_whole dir).storeExact_slice rfl _ (send_packed s k)) (fun _ => rfl)) (.inl rfl)) fun _ =>
  .op (.enqueueDma (sSl dir s k) (.remote (Dev.tc (peer d dir)) (rSl dir s k) (.dma (sendS dir s k))) (.dma (recvS dir s k))
    (sSl_words dir s k) (rSl_words dir s k) ⟨⟨rfl, Or.inl rfl⟩, trivial⟩) fun _ => K

/-- Wait until a send has been read out of its slot. -/
def waitSendP (dir : Bool) (s : Fin 15) (k : Fin 2) {α : Type} (K : P F α) : P F α :=
  .op (.waitDma2 (sendS dir s k) (rSl dir s k) (sSl dir s k) (rSl_words dir s k) (sSl_words dir s k)) fun _ => K

/-- Wait for the sum the neighbour sent in step `s`, and read it. -/
def recvP (dir : Bool) (s : Fin 15) (k : Fin 2) {α : Type} (K : Vec F S1x128x1024 .bf16 → P F α) : P F α :=
  .op (.waitDma2 (recvS dir s k) (sSl dir s k) (rSl dir s k) (sSl_words dir s k) (rSl_words dir s k)) fun _ =>
  .op (.load (rM dir) (rRecv s k).toLoadRect (View.loadsAt_vmem h_S1x128x1024)) fun r => K r

/-- One half (one group of 128 rows) of step `s + 1`. -/
def halfP (d : Dev nD) (s : Fin 14) (k : Fin 2) (mf mb : FVec F S128x1024 .f32) {α : Type} (K : P F α) : P F α :=
  recvP false s.castSucc k fun r => sendP d false s.succ k (addUp r mf) <|
  recvP true s.castSucc k fun r => sendP d true s.succ k (addUp r mb) K

/-- The sends of step `s - 1` are over (none before the first). -/
def freeP (s : Fin 14) (k : Fin 2) {α : Type} (K : P F α) : P F α := match s with
  | ⟨0, _⟩ => K
  | ⟨s + 1, h⟩ => waitSendP false ⟨s, by omega⟩ k (waitSendP true ⟨s, by omega⟩ k K)

/-- Step `s + 1`. -/
def stepP (d : Dev nD) (s : Fin 14) (m : Dots F) {α : Type} (K : Dots F → P F α) : P F α :=
  dotsP d ⟨s.val + 2, by omega⟩ fun m' =>
  freeP s 0 <| halfP d s 0 m.f0 m.b0 <| freeP s 1 <| halfP d s 1 m.f1 m.b1 (K m')

/-- Steps `14 - n, …, 14`. -/
def loopP (d : Dev nD) {α : Type} (K : Dots F → P F α) : (n : ℕ) → n ≤ 14 → Dots F → P F α
  | 0, _, m => K m
  | n + 1, h, m => stepP d ⟨13 - n, by omega⟩ m (loopP d K n (by omega))

/-- Add the last landing and this device's own product into the result. -/
def outP (dir : Bool) (k : Fin 2) (m : FVec F S128x1024 .f32) {α : Type} (K : P F α) : P F α :=
  recvP dir 14 k fun r =>
  .op (.load oM (rOut dir k).toLoadRect (View.loadsAt_vmem h_S128x1024)) fun _ =>
  .op (.store oM (rOut dir k) (addUp r m) Finset.univ (View.stores_vmem_bits_univ h_S128x1024 rfl) (.inl rfl)) fun _ => K

/-- The end: the four blocks of the result, and the last sends over. -/
def finishP (m : Dots F) : P F PUnit :=
  outP false 0 m.f0 <| outP true 0 m.b0 <| outP false 1 m.f1 <| outP true 1 m.b1 <|
  waitSendP false 13 0 <| waitSendP true 13 0 <| waitSendP false 13 1 <| waitSendP true 13 1 <|
  waitSendP false 14 0 <| waitSendP true 14 0 <| waitSendP false 14 1 <| waitSendP true 14 1 <| .ret ⟨⟩

/-- The first step: this device's products, sent both ways. -/
def firstP (d : Dev nD) (k : Fin 2) {α : Type} (K : P F α) : P F α :=
  dotP d false 0 k fun m => sendP d false 0 k m <| dotP d true 0 k fun m => sendP d true 0 k m K

/-- The whole body. -/
def bodyP : P F PUnit :=
  .op .deviceId fun d =>
  semSignalWord (⟨k0_dev1 d, k0_dev1_lt d⟩ : Dev nD) barS 1#32 >>= fun _ =>
  semSignalWord (⟨k0_dev2 d, k0_dev2_lt d⟩ : Dev nD) barS 1#32 >>= fun _ =>
  semWaitWord barS 2#32 >>= fun _ =>
  firstP d 0 <| firstP d 1 <| dotsP d 1 <| loopP d finishP 14 le_rfl

/-- The printed body, on the launch's buffers, is that program. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 cc0_scratch6 cc0_scratch7
    = bodyP := by
  rfl

end Cert.RingProof
-- ==== Proof.Protocol.lean ====
/-
The protocol of the ring: who waits on what, who pays it, how much, in what order, and what each landing hands over.

Sixteen devices stand in a ring. Forwards (`dir = false`) a device sends to the next one, backwards (`dir = true`) to the one
before; `peer c dir` is the device `c` sends to, `src c dir` the one it hears from. A send is named by its direction, its step
`s` (15 of them) and its group of rows `k` (2 of them), and takes place as number `num dir s k = 4 s + 2 k + dir`.

* The barrier cell of `c` has two duties of one unit, `false` and `true`. Duty `d` is paid by `peer c d`, whose signal hands `c`
  the buffer that `c` sends into: all thirty pieces of the receive buffer of direction `d` on `peer c d`, at any contents.
* The send cell `(dir, s, k)` of `c` has one duty, paid by `c`'s own copy: it hands back the slot the copy was read from.
* The receive cell `(dir, s, k)` of `c` has one duty, paid by the copy of `src c dir`: it hands over the piece `(s, k)` of `c`'s
  receive buffer, holding the running sum that `src c dir` sent in step `s`.

Everything happens in round 0. A device owes the receive credits of its sends in the order of the sends, so cells are ranked:
send and staging cells 0, barrier cells 1, receive cell of send number `n` at `2 + n`. When a device waits for the landing of
send number `n` it has sent numbers up to `n + 3` and owes only later ones.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The ring -/

/-- The device that direction `dir` is heard from. -/
def src (c : Dev nD) (dir : Bool) : Dev nD := peer c (!dir)

/-- The device that `c` hears from sends to `c`. -/
theorem peer_src (c : Dev nD) (dir : Bool) : peer (src c dir) dir = c := by revert c dir; decide
/-- The device that `c` sends to hears from `c`. -/
theorem src_peer (c : Dev nD) (dir : Bool) : src (peer c dir) dir = c := by revert c dir; decide
/-- The two entry signals: first to the device before, then to the next one. -/
theorem dev1_eq (c : Dev nD) : (⟨k0_dev1 c, k0_dev1_lt c⟩ : Dev nD) = src c false := by revert c; decide
/-- The second entry signal goes to the device the backward direction is heard from. -/
theorem dev2_eq (c : Dev nD) : (⟨k0_dev2 c, k0_dev2_lt c⟩ : Dev nD) = src c true := by revert c; decide

/-- Going round the ring one place, in direction `dir`. -/
def turn (dir : Bool) : Dev nD ≃ Dev nD := ⟨fun c => peer c dir, fun c => src c dir, fun c => src_peer c dir, fun c => peer_src c dir⟩

/-! ## The cells -/

/-- A send or a landing: its direction, step and group of rows. -/
abbrev J : Type := Bool × Fin 15 × Fin 2
/-- A device's transfer cells: `(false, j)` the send cell of `j`, `(true, j)` its receive cell. -/
abbrev Role : Type := Bool × J

def osem (r : Role) : SemLoc sig := match r.1 with
  | false => .dma (sendS r.2.1 r.2.2.1 r.2.2.2)
  | true => .dma (recvS r.2.1 r.2.2.1 r.2.2.2)
/-- All of a device's cells: its barrier's and its transfers'. -/
def csem : Option Role → SemLoc sig
  | none => .reg barS
  | some r => osem r
abbrev cell (c : Dev nD) (r : Role) : GSem nD τ sig := ((c : Thread nD τ), osem r)
abbrev barCell (c : Dev nD) : GSem nD τ sig := ((c : Thread nD τ), .reg barS)
abbrev kcell (ck : Dev nD × Option Role) : GSem nD τ sig := ((ck.1 : Thread nD τ), csem ck.2)

/-- Which transfer a semaphore belongs to: the four arrays of thirty stand one after another behind the staging semaphores. -/
def roleOf (q : DmaSem sig) : Option Role :=
  if h : 3 ≤ q.val ∧ q.val < 123 then
    some (decide (63 ≤ q.val), decide ((q.val - 3) / 30 % 2 = 1), ⟨(q.val - 3) % 30 / 2, by omega⟩, ⟨(q.val - 3) % 2, by omega⟩)
  else none

set_option maxRecDepth 100000 in
/-- The send semaphore of a transfer is recognised as such. -/
theorem roleOf_send (dir : Bool) (s : Fin 15) (k : Fin 2) : roleOf (sendS dir s k) = some (false, dir, s, k) := by
  revert dir s k; decide
set_option maxRecDepth 100000 in
/-- The receive semaphore of a transfer is recognised as such. -/
theorem roleOf_recv (dir : Bool) (s : Fin 15) (k : Fin 2) : roleOf (recvS dir s k) = some (true, dir, s, k) := by
  revert dir s k; decide

/-- Which transfer a semaphore location belongs to. -/
def roleAt : SemLoc sig → Option Role
  | .reg _ => none
  | .dma q => roleOf q
/-- The semaphore of a transfer cell is recognised as that cell's. -/
theorem roleAt_osem (r : Role) : roleAt (osem r) = some r := by
  obtain ⟨b, dir, s, k⟩ := r
  cases b
  · exact roleOf_send dir s k
  · exact roleOf_recv dir s k
/-- Different transfer cells have different semaphores. -/
theorem osem_injective : Function.Injective osem := fun a b h => by
  have := congrArg roleAt h; rw [roleAt_osem, roleAt_osem] at this; exact Option.some.inj this
/-- No transfer cell's semaphore is the barrier's. -/
theorem osem_ne_bar (r : Role) : osem r ≠ .reg barS := fun h => by
  have := congrArg roleAt h; rw [roleAt_osem] at this; cases this
/-- Different cells of a device have different semaphores. -/
theorem csem_injective : Function.Injective csem := by
  rintro (_ | a) (_ | b) h
  · rfl
  · exact absurd h.symm (osem_ne_bar b)
  · exact absurd h (osem_ne_bar a)
  · exact congrArg some (osem_injective h)
/-- Different cells, over all devices, are different. -/
theorem kcell_injective : Function.Injective (kcell : Dev nD × Option Role → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- What one transfer is counted as. -/
abbrev N : ℕ := (rSl false 0 0).view.dmaCredit
/-- A transfer counts for something. -/
theorem N_pos : 0 < N := View.dmaCredit_pos _ (by decide)
/-- Every landing counts the same. -/
theorem credit_recv (dir : Bool) (s : Fin 15) (k : Fin 2) : (rSl dir s k).view.dmaCredit = N := by cases dir <;> rfl
/-- Every send counts the same. -/
theorem credit_send (dir : Bool) (s : Fin 15) (k : Fin 2) : (sSl dir s k).view.dmaCredit = N := by cases dir <;> rfl

/-! ## The contents -/

/-- The staged `x` and `w` of a device: its arguments. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- Device `c`'s product number `t` of direction `dir` and rows `k`. -/
def dotV (c : Dev nD) (dir : Bool) (t : Fin 16) (k : Fin 2) : FVec F S128x1024 .f32 :=
  mm (xM.view.readAt (Elt F) (rX c dir t k).toLoadRect (xstg m c)) (wM.view.readAt (Elt F) (rW dir).toLoadRect (wstg m c))

/-- The running sum device `c` forms in step `n`: its product, with what the neighbour sent in the step before. -/
def sumV (dir : Bool) (k : Fin 2) : (n : ℕ) → n < 16 → Dev nD → FVec F S128x1024 .f32
  | 0, _, c => dotV m c dir 0 k
  | n + 1, h, c => addUp (pack (sumV dir k n (by omega) (src c dir))) (dotV m c dir ⟨n + 1, h⟩ k)

/-- What device `c` sends in step `s`. -/
def sentV (c : Dev nD) (dir : Bool) (s : Fin 15) (k : Fin 2) : FVec F S1x128x1024 .bf16 := pack (sumV m dir k s.val (by omega) c)

/-! ## The pieces of the buffers -/

/-- A slot of the send buffer, and a piece of the receive buffer, at contents `f`. -/
def sPts (c : Dev nD) (dir : Bool) (s : Fin 15) (k : Fin 2) (f : Buf (Elt F) ((sSl dir s k).view.loc (c : Thread nD τ))) : sProp 𝕄 :=
  (sSl dir s k).view.loc (c : Thread nD τ) ↦[(sSl dir s k).view.set]{fullShare} f
def rPts (c : Dev nD) (dir : Bool) (s : Fin 15) (k : Fin 2) (f : Buf (Elt F) ((rSl dir s k).view.loc (c : Thread nD τ))) : sProp 𝕄 :=
  (rSl dir s k).view.loc (c : Thread nD τ) ↦[(rSl dir s k).view.set]{fullShare} f
/-- The same at any contents, -/
def sAny (c : Dev nD) (dir : Bool) (s : Fin 15) (k : Fin 2) : sProp 𝕄 := iprop(∃ f, sPts c dir s k f)
def rAny (c : Dev nD) (dir : Bool) (s : Fin 15) (k : Fin 2) : sProp 𝕄 := iprop(∃ f, rPts c dir s k f)
/-- and the piece of the receive buffer that reads `A`. -/
def rHold (c : Dev nD) (dir : Bool) (s : Fin 15) (k : Fin 2) (A : FVec F S1x128x1024 .bf16) : sProp 𝕄 :=
  iprop(∃ f, ⌜(rM dir).view.readAt (Elt F) (rRecv s k).toLoadRect f = A⌝ ∗ rPts c dir s k f)

instance sAny_storable (c : Dev nD) (dir : Bool) (s : Fin 15) (k : Fin 2) : BI.Storable (upEmb : UEmb _ 𝕄) (sAny (F := F) c dir s k) := by
  unfold sAny sPts; infer_instance
instance rAny_storable (c : Dev nD) (dir : Bool) (s : Fin 15) (k : Fin 2) : BI.Storable (upEmb : UEmb _ 𝕄) (rAny (F := F) c dir s k) := by
  unfold rAny rPts; infer_instance
instance rHold_storable (c : Dev nD) (dir : Bool) (s : Fin 15) (k : Fin 2) (A) : BI.Storable (upEmb : UEmb _ 𝕄) (rHold (F := F) c dir s k A) := by
  unfold rHold rPts; infer_instance

/-! ## The schedule -/

/-- What the barrier duty `d` hands `c`. -/
def barPay (c : Dev nD) (d : Bool) : sProp 𝕄 := bigSep Finset.univ fun sk : Fin 15 × Fin 2 => rAny (peer c d) d sk.1 sk.2
instance barPay_storable (c : Dev nD) (d : Bool) : BI.Storable (upEmb : UEmb _ 𝕄) (barPay (F := F) c d) := by unfold barPay; infer_instance

/-- What a transfer's duty hands `c`. -/
def rolePay (c : Dev nD) (r : Role) : sProp 𝕄 := match r with
  | (false, dir, s, k) => sAny c dir s k
  | (true, dir, s, k) => rHold c dir s k (sentV m (src c dir) dir s k)
instance rolePay_storable (c : Dev nD) (r : Role) : BI.Storable (upEmb : UEmb _ 𝕄) (rolePay (F := F) m c r) := by
  obtain ⟨b, dir, s, k⟩ := r
  cases b <;> unfold rolePay <;> infer_instance

def ringRd : Rounds.Schedule (GSem nD τ sig) Bool 𝕄 where
  duties g r :=
    if r = 0 ∧ g.1.2 = .tc then (if g.2 = .reg barS then Finset.univ else if (roleAt g.2).isSome then {false} else ∅) else ∅
  unitless _ := False
  amount g _ _ := if g.2 = .reg barS then 1 else N
  payload g _ d :=
    if g.2 = .reg barS then barPay g.1.1 d else match roleAt g.2 with
      | none => iprop(emp)
      | some r => rolePay m g.1.1 r
  amount_pos g _ _ _ := by
    by_cases h : g.2 = .reg barS
    · rw [if_pos h]; exact Nat.one_pos
    · rw [if_neg h]; exact N_pos

instance ringRd_payload_storable (g : GSem nD τ sig) (r : ℕ) (d : Bool) : BI.Storable (upEmb : UEmb _ 𝕄) ((ringRd (F := F) m).payload g r d) := by
  show BI.Storable upEmb (if g.2 = .reg barS then barPay g.1.1 d else match roleAt g.2 with
      | none => iprop(emp)
      | some r => rolePay m g.1.1 r)
  split
  · infer_instance
  · cases roleAt g.2 <;> infer_instance

section Sched
variable (c : Dev nD)

/-- A barrier cell has both duties in round 0. -/
theorem duties_bar : (ringRd (F := F) m).duties (barCell c) 0 = Finset.univ := by
  dsimp only [ringRd]; rw [if_pos ⟨rfl, rfl⟩, if_pos rfl]
/-- A transfer cell has one duty in round 0. -/
theorem duties_cell (r : Role) : (ringRd (F := F) m).duties (cell c r) 0 = {false} := by
  dsimp only [ringRd]; rw [if_pos ⟨rfl, rfl⟩, if_neg (osem_ne_bar r), roleAt_osem]; rfl
/-- No cell has a duty after round 0. -/
theorem duties_later (g : GSem nD τ sig) : ∀ r, 1 ≤ r → (ringRd (F := F) m).duties g r = ∅ :=
  fun r hr => by dsimp only [ringRd]; rw [if_neg fun h => by omega]

/-- Each signal of a barrier counts one. -/
theorem amount_bar (d : Bool) : (ringRd (F := F) m).amount (barCell c) 0 d = 1 := by dsimp only [ringRd]; exact if_pos rfl
/-- The one signal of a transfer cell counts a transfer. -/
theorem amount_cell (r : Role) (d : Bool) : (ringRd (F := F) m).amount (cell c r) 0 d = N := by dsimp only [ringRd]; exact if_neg (osem_ne_bar r)

/-- A barrier's round is complete at 2. -/
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- A transfer cell's round is complete at one transfer. -/
theorem expect_cell (r : Role) : (ringRd (F := F) m).expect (cell c r) 0 = N := by
  unfold Schedule.expect Schedule.amountOf; rw [duties_cell, Finset.sum_singleton, amount_cell]

/-- What a barrier's signal hands over. -/
theorem payload_bar (d : Bool) : (ringRd (F := F) m).payload (barCell c) 0 d = barPay c d := by dsimp only [ringRd]; rw [if_pos rfl]
/-- What a transfer cell's signal hands over. -/
theorem payload_cell (r : Role) (d : Bool) : (ringRd (F := F) m).payload (cell c r) 0 d = rolePay m c r := by
  dsimp only [ringRd]; rw [if_neg (osem_ne_bar r), roleAt_osem]

/-- What a wait for a whole round brings. -/
theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- A wait for a transfer cell's whole round brings what its one signal hands over. -/
theorem rest_cell (r : Role) : bigSep ((ringRd (F := F) m).duties (cell c r) 0 \ ∅) (fun d => (ringRd (F := F) m).payload (cell c r) 0 d)
    = rolePay m c r := by
  rw [Finset.sdiff_empty, duties_cell, bigSep_singleton, payload_cell]

end Sched

/-! ## What is owed, and the ranks -/

/-- The place of a send in the order of a device's sends. -/
def num (j : J) : ℕ := 4 * j.2.1.val + 2 * j.2.2.val + j.1.toNat
/-- No two sends have the same place. -/
theorem num_injective : Function.Injective num := by
  rintro ⟨d, s, k⟩ ⟨d', s', k'⟩ h
  have hb : ∀ b : Bool, b.toNat < 2 := by decide
  have := hb d; have := hb d'
  simp only [num] at h
  have e1 : s = s' := Fin.ext (by omega)
  have e2 : k = k' := Fin.ext (by omega)
  have e3 : d.toNat = d'.toNat := by omega
  have hi : ∀ a b : Bool, a.toNat = b.toNat → a = b := by decide
  have e4 : d = d' := hi d d' e3
  rw [e1, e2, e4]
/-- There are sixty places. -/
theorem num_lt (j : J) : num j < 60 := by
  obtain ⟨d, s, k⟩ := j
  have hb : ∀ b : Bool, b.toNat < 2 := by decide
  have := hb d
  simp only [num]; omega

/-- What `c` still owes when it has sent its first `n`: the credit of every later send. -/
def owed (c : Dev nD) (n : ℕ) : CellTallies nD τ sig Unit :=
  ∑ j ∈ Finset.univ.filter (fun j : J => n ≤ num j), tallyAt (cell (peer c j.1) (true, j)) () N
/-- Making a send takes its credit off what is owed. -/
theorem owed_num (c : Dev nD) (j : J) : owed c (num j) = owed c (num j + 1) + tallyAt (cell (peer c j.1) (true, j)) () N := by
  unfold owed
  have h : (Finset.univ.filter fun j' : J => num j ≤ num j') = insert j (Finset.univ.filter fun j' : J => num j + 1 ≤ num j') := by
    ext j'
    simp only [Finset.mem_filter, Finset.mem_univ, true_and, Finset.mem_insert]
    constructor
    · intro h; rcases Nat.eq_or_lt_of_le h with h | h
      · exact Or.inl (num_injective h.symm)
      · exact Or.inr h
    · rintro (rfl | h)
      · exact le_rfl
      · omega
  rw [h, Finset.sum_insert (by simp), add_comm]
/-- After sixty sends nothing is owed. -/
theorem owed_end (c : Dev nD) : owed c 60 = 0 := by
  unfold owed
  rw [Finset.filter_false_of_mem fun j _ => by have := num_lt j; omega, Finset.sum_empty]

/-- At launch: the credits of its sends, a unit to the next device's barrier, and one to the barrier of the device before. -/
def O₁ (c : Dev nD) : CellTallies nD τ sig Unit := owed c 0 + tallyAt (barCell (src c true)) () 1
def O₀ (c : Dev nD) : CellTallies nD τ sig Unit := O₁ c + tallyAt (barCell (src c false)) () 1

def L (g : GSem nD τ sig) : Finset Unit := if g.1.2 = .tc then {()} else ∅
/-- The ranks: barrier cells 1, the landing of send number `n` at `2 + n`, all else 0. -/
def lv (g : GSem nD τ sig) (_ : Unit) : ℕ := match g.2 with
  | .reg _ => 1
  | .dma q => match roleOf q with
    | some (true, j) => 2 + num j
    | _ => 0

/-- Only the cells of TensorCores have a label. -/
theorem L_of_ne (g : GSem nD τ sig) (h : g.1.2 ≠ .tc) : L g = ∅ := if_neg h
/-- Every cell of a TensorCore has the one label. -/
theorem L_tc (c : Dev nD) (sm : SemLoc sig) : L ((c : Thread nD τ), sm) = {()} := if_pos rfl
/-- A barrier's rank is 1. -/
theorem lv_bar (c : Dev nD) (u : Unit) : lv (barCell c) u = 1 := rfl
/-- A landing's rank is 2 more than the place of its send. -/
theorem lv_recv (c : Dev nD) (j : J) (u : Unit) : lv (cell c (true, j)) u = 2 + num j := by
  obtain ⟨dir, s, k⟩ := j
  show (match roleOf (recvS dir s k) with | some (true, j) => 2 + num j | _ => 0) = _
  rw [roleOf_recv]
/-- The rank of a send's own cell is 0. -/
theorem lv_send (c : Dev nD) (j : J) (u : Unit) : lv (cell c (false, j)) u = 0 := by
  obtain ⟨dir, s, k⟩ := j
  show (match roleOf (sendS dir s k) with | some (true, j) => 2 + num j | _ => 0) = _
  rw [roleOf_send]

/-- Whatever is owed after `n` sends is owed to the landing of a send at place `n` or later. -/
theorem owed_pos {c : Dev nD} {n : ℕ} {g : GSem nD τ sig} {u : Unit} (h : 0 < owed c n g u) :
    ∃ j : J, n ≤ num j ∧ g = cell (peer c j.1) (true, j) := by
  unfold owed at h
  rw [Finset.sum_apply, Finsupp.finset_sum_apply] at h
  obtain ⟨j, hj, hpos⟩ : ∃ j ∈ Finset.univ.filter (fun j : J => n ≤ num j), 0 < (tallyAt (cell (peer c j.1) (true, j)) () N : CellTallies nD τ sig Unit) g u := by
    by_contra hn
    push Not at hn
    exact absurd h (by rw [Finset.sum_eq_zero fun j hj => Nat.le_zero.mp (hn j hj)]; exact Nat.lt_irrefl 0)
  refine ⟨j, (Finset.mem_filter.mp hj).2, ?_⟩
  rw [tallyAt_apply] at hpos
  by_contra hn
  rw [if_neg (fun h' => hn h'.1)] at hpos
  exact Nat.lt_irrefl 0 hpos

/-- Whatever is owed at launch is owed to a landing or to a neighbour's barrier. -/
theorem O₀_pos {c : Dev nD} {g : GSem nD τ sig} {u : Unit} (h : 0 < O₀ c g u) :
    (∃ j : J, g = cell (peer c j.1) (true, j)) ∨ ∃ d, g = barCell (src c d) := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨true, h'.1⟩), if_neg (fun h' => hn.2 ⟨false, h'.1⟩)] at h
  obtain ⟨j, -, hj⟩ := owed_pos (Nat.pos_of_ne_zero fun h0 => by rw [h0] at h; exact Nat.lt_irrefl 0 h : 0 < owed c 0 g u)
  exact hn.1 ⟨j, hj⟩

/-- A wait whose cell ranks below everything owed of the sends still to come is allowed. -/
theorem mayWait_owed (c : Dev nD) (n : ℕ) (sm : SemLoc sig) (hlv : lv ((c : Thread nD τ), sm) () < 2 + n) :
    (levAts L lv : sProp 𝕄) ⊢ MayWait (c : Thread nD τ) sm () (owed c n) :=
  MayOwe.of_cut (L := L) (lev := lv) (1 + n) (fun p hp => by rw [Finset.mem_singleton.mp hp, L_tc]; exact Finset.mem_singleton_self _)
    (fun g u hg => by obtain ⟨j, -, rfl⟩ := owed_pos hg; rw [L_tc]; exact Finset.mem_singleton_self _)
    (fun p hp => by rw [Finset.mem_singleton.mp hp]; show lv ((c : Thread nD τ), sm) () ≤ 1 + n; omega)
    (fun g u hg => by obtain ⟨j, hj, rfl⟩ := owed_pos hg; rw [lv_recv]; omega)

/-- The staging cells rank lowest. -/
theorem mayWait_stage (c : Dev nD) (q : DmaSem sig) (hq : roleOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨d, rfl⟩ <;> exact Finset.mem_singleton_self _)
      (fun p hp => by
        rw [Finset.mem_singleton.mp hp]
        show (match roleOf q with | some (true, j) => 2 + num j | _ => 0) ≤ 0
        rw [hq])
      (fun g u hg => by
        rcases O₀_pos hg with ⟨j, rfl⟩ | ⟨d, rfl⟩
        · rw [lv_recv]; omega
        · rw [lv_bar]; exact Nat.one_pos)
  · rw [MayWait_zero]; iintro -; iempintro

end Cert.RingProof

end
-- ==== Proof.Steps.lean ====
/-
The pieces of the body, each run once at a symbolic device, direction, step and group of rows.

A piece's rule says what it needs of the device's share of the protocol and what it leaves: a product reads the staged
arguments; a send spends its slot, its tokens and the piece of the neighbour's buffer, and leaves the slot in flight; the wait
for a send brings the slot back and closes the send's cell; the wait for a landing brings the piece of the receive buffer,
holding the neighbour's running sum, and closes that cell.
-/
module

public import proofs.«01_k».proof.Proof.Protocol
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What a device holds -/

/-- The names the cells' invariants were allocated at. -/
abbrev Names : Type := Dev nD × Option Role → ℕ

/-- What every device may consult: every cell's invariant, and that every cell is in round 0. -/
def records (K : Names) : sProp 𝕄 :=
  iprop((bigSep Finset.univ fun ck : Dev nD × Option Role => cellInv ER (ringRd m) (K ck) (kcell ck))
    ∗ bigSep Finset.univ fun ck : Dev nD × Option Role => reached ER (kcell ck) 0)
instance records_persistent (K : Names) : BI.Persistent (records m K) := by unfold records; infer_instance

/-- The records contain every cell's invariant. -/
theorem records_inv (K : Names) (ck : Dev nD × Option Role) : records m K ⊢ cellInv ER (ringRd m) (K ck) (kcell ck) := by
  unfold records; iintro ⟨H, -⟩
  iapply (show (bigSep Finset.univ fun ck : Dev nD × Option Role => (cellInv ER (ringRd m) (K ck) (kcell ck) : sProp 𝕄)) ⊢ cellInv ER (ringRd m) (K ck) (kcell ck) from
    bigSep_elim (Finset.mem_univ ck))
  iexact H
/-- The records say of every cell that it is in round 0. -/
theorem records_reached (K : Names) (ck : Dev nD × Option Role) : records m K ⊢ reached ER (kcell ck) 0 := by
  unfold records; iintro ⟨-, H⟩
  iapply (show (bigSep Finset.univ fun ck : Dev nD × Option Role => (reached ER (kcell ck) 0 : sProp 𝕄)) ⊢ reached ER (kcell ck) 0 from
    bigSep_elim (Finset.mem_univ ck))
  iexact H

/-- The staged arguments. -/
def args (c : Dev nD) : sProp 𝕄 :=
  iprop((((c : Thread nD τ).loc cc0_stg0_0) ↦{fullShare} xstg m c) ∗ (((c : Thread nD τ).loc cc0_stg1_0) ↦{fullShare} wstg m c))
/-- What is owed, whatever has been waited for. -/
def owesE (c : Dev nD) (O : CellTallies nD τ sig Unit) : sProp 𝕄 := iprop(∃ W, owes (c : Thread nD τ) O W)
/-- What a send needs besides its slot: its tokens, its cell's position, the neighbour's piece it lands in. -/
def sendKit (c : Dev nD) (j : J) : sProp 𝕄 :=
  iprop(dutyTok ER (cell c (false, j)) 0 false ∗ dutyTok ER (cell (peer c j.1) (true, j)) 0 false ∗ atPos ER (cell c (false, j)) 0 ∅ 0
    ∗ rAny (peer c j.1) j.1 j.2.1 j.2.2)
/-- A send in flight. -/
def pend (c : Dev nD) (j : J) : sProp 𝕄 := iprop(atPos ER (cell c (false, j)) 0 ∅ 0 ∗ cred (tallyAt (cell c (false, j)) () N))
/-- A landing to come. -/
def recvKit (c : Dev nD) (j : J) : sProp 𝕄 := iprop(atPos ER (cell c (true, j)) 0 ∅ 0 ∗ cred (tallyAt (cell c (true, j)) () N))
/-- A landing that is over. -/
def recvDone (c : Dev nD) (j : J) : sProp 𝕄 := iprop(rAny c j.1 j.2.1 j.2.2 ∗ semVal (cell c (true, j)) 0)

abbrev wpc (c : Dev nD) {α : Type} (p : P F α) (Q : α → sProp 𝕄) : sProp 𝕄 :=
  wp frame (wpE (defs₀ (F := F)) 𝒱₀ (c : Thread nD τ) none) Set.univ p Q

/-! ## Products -/

/-- Computing one product reads the arguments, leaves them, and gives `dotV`. -/
theorem wp_dot {α : Type} {Q : α → sProp 𝕄} (c : Dev nD) (dir : Bool) (t : Fin 16) (k : Fin 2) (K : FVec F S128x1024 .f32 → P F α) :
    iprop(args m c ∗ (args m c -∗ wpc c (K (dotV m c dir t k)) Q)) ⊢ wpc c (dotP c dir t k K) Q := by
  unfold args dotP dotV
  iintro ⟨⟨Hx, Hw⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx] <;> iassumption

/-- Device `c`'s four products number `t`. -/
def dotsV (c : Dev nD) (t : Fin 16) : Dots F := ⟨dotV m c false t 0, dotV m c false t 1, dotV m c true t 0, dotV m c true t 1⟩

/-- Computing the four products of a step leaves the arguments and gives `dotsV`. -/
theorem wp_dots {α : Type} {Q : α → sProp 𝕄} (c : Dev nD) (t : Fin 16) (K : Dots F → P F α) :
    iprop(args m c ∗ (args m c -∗ wpc c (K (dotsV m c t)) Q)) ⊢ wpc c (dotsP c t K) Q := by
  unfold dotsP
  iintro ⟨Ha, Hk⟩
  iapply (wp_dot m c); isplitl [Ha]; · iexact Ha
  iintro Ha
  iapply (wp_dot m c); isplitl [Ha]; · iexact Ha
  iintro Ha
  iapply (wp_dot m c); isplitl [Ha]; · iexact Ha
  iintro Ha
  iapply (wp_dot m c); isplitl [Ha]; · iexact Ha
  iintro Ha
  iapply Hk; iexact Ha

/-! ## Sends -/

/-- The elements of a slot, and of a piece, are those its rectangle reads. -/
theorem sSl_set (dir : Bool) (s : Fin 15) (k : Fin 2) : (sSl dir s k).view.set = (sM dir).view.setOn (rSend s k).set := by
  show (((sM dir).view.slice (rSend s k)).reshape S128x1024 _).set = _
  rw [View.set_reshape, View.set_slice]; rfl
/-- The indices of a piece, seen in the whole buffer. -/
theorem rSl_set (dir : Bool) (s : Fin 15) (k : Fin 2) : (rSl dir s k).view.set = (rM dir).view.setOn (rRecv s k).set := by
  show (((rM dir).view.slice (rRecv s k)).reshape S128x1024 _).set = _
  rw [View.set_reshape, View.set_slice]; rfl

/-- A copy lands as what its source reads. -/
theorem landed (dir : Bool) (s : Fin 15) (k : Fin 2) (fd : (rM dir).view.ty.Contents (Elt F)) (fs : (sM dir).view.ty.Contents (Elt F)) :
    (rM dir).view.readAt (Elt F) (rRecv s k).toLoadRect ((rSl dir s k).view.write (Elt F) fd ((sSl dir s k).view.read (Elt F) fs) Finset.univ)
      = (sM dir).view.readAt (Elt F) (rSend s k).toLoadRect fs := by
  have h := View.read_write_univ (Val := Elt F) (v := (rSl dir s k).view) fd ((sSl dir s k).view.read (Elt F) fs)
  funext y
  obtain ⟨x, rfl⟩ := (Shape.reshapeEquiv (s := S1x128x1024) (s' := S128x1024) squeezes_S1x128x1024_S128x1024.numel_eq).surjective y
  exact congrFun h x

/-- A slot reads what was just stored in it. -/
theorem stored (dir : Bool) (s : Fin 15) (k : Fin 2) (f : (sM dir).view.ty.Contents (Elt F)) (A : FVec F S1x128x1024 .bf16) :
    (sM dir).view.readAt (Elt F) (rSend s k).toLoadRect (((sM dir).access (rSend s k)).write (Elt F) f A Finset.univ) = A :=
  View.read_write_univ (Val := Elt F) (v := (sM dir).view.slice (rSend s k)) f A

/-- A slot at any contents is what a finished send hands back. -/
theorem pay_send (c : Dev nD) (dir : Bool) (s : Fin 15) (k : Fin 2) (f : Buf (Elt F) ((sSl dir s k).view.loc (c : Thread nD τ))) :
    sPts c dir s k f ⊢ (ringRd m).payload (cell c (false, dir, s, k)) 0 false := by
  rw [payload_cell]; unfold rolePay sAny; iintro H; iexists f; iexact H
/-- A piece the sent value was copied to is what a landing hands over. -/
theorem pay_recv (c : Dev nD) (dir : Bool) (s : Fin 15) (k : Fin 2) (fd : Buf (Elt F) ((rSl dir s k).view.loc (peer c dir : Thread nD τ)))
    (fs : Buf (Elt F) ((sSl dir s k).view.loc (c : Thread nD τ)))
    (hf : (sM dir).view.readAt (Elt F) (rSend s k).toLoadRect fs = sentV m c dir s k) :
    rPts (peer c dir) dir s k ((rSl dir s k).view.write (Elt F) fd ((sSl dir s k).view.read (Elt F) fs) Finset.univ)
      ⊢ (ringRd m).payload (cell (peer c dir) (true, dir, s, k)) 0 false := by
  rw [payload_cell]
  show _ ⊢ rHold (peer c dir) dir s k (sentV m (src (peer c dir) dir) dir s k)
  rw [src_peer]; unfold rHold
  iintro H; iexists ((rSl dir s k).view.write (Elt F) fd ((sSl dir s k).view.read (Elt F) fs) Finset.univ)
  isplitr
  · ipureintro; exact (landed dir s k fd fs).trans hf
  iexact H

/-- The copy itself, from a slot that reads the step's running sum. -/
theorem wp_copy {α : Type} {Q : α → sProp 𝕄} (K : Names) (c : Dev nD) (dir : Bool) (s : Fin 15) (k : Fin 2)
    (fd : Buf (Elt F) ((rSl dir s k).view.loc (peer c dir : Thread nD τ))) (fs : Buf (Elt F) ((sSl dir s k).view.loc (c : Thread nD τ)))
    (hf : (sM dir).view.readAt (Elt F) (rSend s k).toLoadRect fs = sentV m c dir s k) (W : Waits sig Unit)
    {hsc : (rSl dir s k).view.ref.isScScratch = false}
    {hsrc : (sSl dir s k).view.WordExact} {hdst : (rSl dir s k).view.WordExact}
    {hsem : DmaTarget.Typed .vmem (.dma (recvS dir s k)) (.remote (Dev.tc (peer c dir) : Thread nD τ) (rSl dir s k) (.dma (sendS dir s k)) hsc)}
    {kt : PUnit → P F α} :
    iprop(cellInv ER (ringRd m) (K (c, some (false, dir, s, k))) (cell c (false, dir, s, k))
        ∗ cellInv ER (ringRd m) (K (peer c dir, some (true, dir, s, k))) (cell (peer c dir) (true, dir, s, k))
        ∗ sPts c dir s k fs ∗ rPts (peer c dir) dir s k fd
        ∗ owes (c : Thread nD τ) (owed c (num (dir, s, k))) W
        ∗ dutyTok ER (cell c (false, dir, s, k)) 0 false ∗ reached ER (cell c (false, dir, s, k)) 0
        ∗ dutyTok ER (cell (peer c dir) (true, dir, s, k)) 0 false ∗ reached ER (cell (peer c dir) (true, dir, s, k)) 0)
      ⊢ iprop(((cred (tallyAt (cell c (false, dir, s, k)) () N) ∗ owes (c : Thread nD τ) (owed c (num (dir, s, k) + 1)) W) -∗ wpc c (kt ⟨⟩) Q)
          -∗ wpc c (.op (.enqueueDma (sSl dir s k) (.remote (Dev.tc (peer c dir) : Thread nD τ) (rSl dir s k) (.dma (sendS dir s k)) hsc) (.dma (recvS dir s k)) hsrc hdst hsem) kt) Q) :=
  Rounds.wp_send_pointsTo (sS := .dma (sendS dir s k)) (sem := .dma (recvS dir s k)) (hsc := hsc) (hsrc := hsrc) (hdst := hdst) (hsem := hsem) 𝒱₀ ER (ringRd m) (c : Thread nD τ) none (κ₁ := K (c, some (false, dir, s, k))) (κ₂ := K (peer c dir, some (true, dir, s, k)))
    (r₁ := 0) (r₂ := 0) (d₁ := false) (d₂ := false) (fd := fd) (fs := fs)
    (by
      show false ∈ (ringRd m).duties (cell c (false, dir, s, k)) 0
      rw [duties_cell]; exact Finset.mem_singleton_self _)
    (by
      show false ∈ (ringRd m).duties (cell (peer c dir) (true, dir, s, k)) 0
      rw [duties_cell]; exact Finset.mem_singleton_self _)
    () () N (credit_recv dir s k) (amount_cell m c (false, dir, s, k) false) (amount_cell m (peer c dir) (true, dir, s, k) false)
    (owed c (num (dir, s, k) + 1)) (owed_num c (dir, s, k)) (W := W)
    (pay_send m c dir s k fs) (pay_recv m c dir s k fd fs hf)

/-- A send: the value is stored in its slot and its transfer started, which pays the credit owed at its place. -/
theorem wp_send {α : Type} {Q : α → sProp 𝕄} (K : Names) (c : Dev nD) (dir : Bool) (s : Fin 15) (k : Fin 2) (v : FVec F S128x1024 .f32)
    (hv : pack v = sentV m c dir s k) (n : ℕ) (hn : n = num (dir, s, k)) (kt : P F α) :
    iprop(records m K ∗ sAny c dir s k ∗ sendKit c (dir, s, k) ∗ owesE c (owed c n)
        ∗ ((pend c (dir, s, k) ∗ owesE c (owed c (n + 1))) -∗ wpc c kt Q))
      ⊢ wpc c (sendP c dir s k v kt) Q := by
  subst hn
  unfold sendP sAny sPts sendKit rAny owesE pend
  iintro ⟨#HR, ⟨%f, Hs⟩, ⟨Ht1, Ht2, Hat, ⟨%fd, Hd⟩⟩, ⟨%W, HO⟩, Hk⟩
  rw [sSl_set]
  iapply (wp_load 𝒱₀ (c : Thread nD τ) none Set.univ (m := sM dir) (r := (rSend s k).toLoadRect) (S := (sM dir).view.setOn (rSend s k).set) subset_rfl) $$ Hs; iintro Hs
  iapply (wp_store 𝒱₀ (c : Thread nD τ) none Set.univ (m := sM dir) (r := rSend s k) (Mk := Finset.univ) (S := (sM dir).view.setOn (rSend s k).set)
    (by rw [View.setOn_univ, View.set_slice]; exact subset_rfl)) $$ Hs; iintro Hs
  iapply (wp_copy m K c dir s k fd (((sM dir).access (rSend s k)).write (Elt F) f (pack v) Finset.univ) ((stored dir s k f (pack v)).trans hv) W) $$ [Hs Hd HO Ht1 Ht2]
  · isplitr; · iapply (records_inv m K (c, some (false, dir, s, k))); iexact HR
    isplitr; · iapply (records_inv m K (peer c dir, some (true, dir, s, k))); iexact HR
    isplitl [Hs]; · unfold sPts; rw [sSl_set]; iexact Hs
    isplitl [Hd]; · iexact Hd
    isplitl [HO]; · iexact HO
    isplitl [Ht1]; · iexact Ht1
    isplitr; · iapply (records_reached m K (c, some (false, dir, s, k))); iexact HR
    isplitl [Ht2]; · iexact Ht2
    iapply (records_reached m K (peer c dir, some (true, dir, s, k))); iexact HR
  iintro ⟨Hc, HO⟩
  iapply Hk
  isplitl [Hat Hc]
  · isplitl [Hat]; · iexact Hat
    iexact Hc
  iexists W; iexact HO

/-! ## Waits -/

/-- A wait for a send brings its slot back. -/
theorem rest_send (c : Dev nD) (dir : Bool) (s : Fin 15) (k : Fin 2) :
    bigSep ((ringRd (F := F) m).duties ((c : Thread nD τ), .dma (sendS dir s k)) 0 \ ∅) (fun d => (ringRd (F := F) m).payload ((c : Thread nD τ), .dma (sendS dir s k)) 0 d)
      = sAny c dir s k := rest_cell m c (false, dir, s, k)
/-- A wait for a landing brings the piece at the value its sender sent. -/
theorem rest_recv (c : Dev nD) (dir : Bool) (s : Fin 15) (k : Fin 2) :
    bigSep ((ringRd (F := F) m).duties ((c : Thread nD τ), .dma (recvS dir s k)) 0 \ ∅) (fun d => (ringRd (F := F) m).payload ((c : Thread nD τ), .dma (recvS dir s k)) 0 d)
      = rHold c dir s k (sentV m (src c dir) dir s k) := rest_cell m c (true, dir, s, k)

/-- Waiting for a send brings back its slot and closes its cell, its counter at zero. -/
theorem wp_waitSend {α : Type} {Q : α → sProp 𝕄} (K : Names) (c : Dev nD) (dir : Bool) (s : Fin 15) (k : Fin 2) (n : ℕ) (kt : P F α) :
    iprop(records m K ∗ levAts L lv ∗ pend c (dir, s, k) ∗ owesE c (owed c n)
        ∗ ((sAny c dir s k ∗ semVal (cell c (false, dir, s, k)) 0 ∗ owesE c (owed c n)) -∗ wpc c kt Q))
      ⊢ wpc c (waitSendP dir s k kt) Q := by
  unfold waitSendP pend owesE
  iintro ⟨#HR, #Hlev, ⟨Hat, Hc⟩, ⟨%W, HO⟩, Hk⟩
  ihave #HI := (records_inv m K (c, some (false, dir, s, k))) $$ HR
  iapply (Rounds.wp_wait_rest_token 𝒱₀ ER (ringRd m) (c : Thread nD τ) none (κ := K (c, some (false, dir, s, k)))
      (wpE_waitDma2_eq 𝒱₀ (c : Thread nD τ) none Set.univ) (Set.mem_univ _) () (O := owed c n) (W := W) (R := 0) (m := 0) (T := ∅)
      (by rw [Nat.zero_add, credit_send]; exact (expect_cell m c (false, dir, s, k)).symm)) $$ [Hc HO Hat]
  · isplitr; · iexact HI
    isplitl [Hc]; · rw [credit_send]; iexact Hc
    isplitl [HO]; · iexact HO
    isplitr
    · iapply (mayWait_owed c n (.dma (sendS dir s k)) (by
        rw [show (((c : Thread nD τ), SemLoc.dma (sendS dir s k)) : GSem nD τ sig) = cell c (false, dir, s, k) from rfl, lv_send]; omega)); iexact Hlev
    iexact Hat
  iintro ⟨HO, Hat, -, Hpay⟩
  ihave Hs := (Entails.of_eq (rest_send m c dir s k)) $$ Hpay
  imod (Rounds.cell_close ER (ringRd m) (Set.mem_univ (K (c, some (false, dir, s, k)))) (fun h => h) (R := 0 + 1) (duties_later m (cell c (false, dir, s, k)))) $$ [Hat] with Hz
  · isplitr; · iexact HI
    iexact Hat
  iapply Hk
  isplitl [Hs]; · iexact Hs
  isplitl [Hz]; · iexact Hz
  iexists _; iexact HO

/-- Receiving waits for the landing and loads the value its sender sent. -/
theorem wp_recv {α : Type} {Q : α → sProp 𝕄} (K : Names) (c : Dev nD) (dir : Bool) (s : Fin 15) (k : Fin 2) (n : ℕ) (hn : num (dir, s, k) < n)
    (kt : Vec F S1x128x1024 .bf16 → P F α) :
    iprop(records m K ∗ levAts L lv ∗ recvKit c (dir, s, k) ∗ owesE c (owed c n)
        ∗ ((recvDone c (dir, s, k) ∗ owesE c (owed c n)) -∗ wpc c (kt (sentV m (src c dir) dir s k)) Q))
      ⊢ wpc c (recvP dir s k kt) Q := by
  unfold recvP recvKit recvDone owesE
  iintro ⟨#HR, #Hlev, ⟨Hat, Hc⟩, ⟨%W, HO⟩, Hk⟩
  ihave #HI := (records_inv m K (c, some (true, dir, s, k))) $$ HR
  iapply (Rounds.wp_wait_rest_token 𝒱₀ ER (ringRd m) (c : Thread nD τ) none (κ := K (c, some (true, dir, s, k)))
      (wpE_waitDma2_eq 𝒱₀ (c : Thread nD τ) none Set.univ) (Set.mem_univ _) () (O := owed c n) (W := W) (R := 0) (m := 0) (T := ∅)
      (by rw [Nat.zero_add, credit_recv]; exact (expect_cell m c (true, dir, s, k)).symm)) $$ [Hc HO Hat]
  · isplitr; · iexact HI
    isplitl [Hc]; · rw [credit_recv]; iexact Hc
    isplitl [HO]; · iexact HO
    isplitr
    · iapply (mayWait_owed c n (.dma (recvS dir s k)) (by
        rw [show (((c : Thread nD τ), SemLoc.dma (recvS dir s k)) : GSem nD τ sig) = cell c (true, dir, s, k) from rfl, lv_recv]; omega)); iexact Hlev
    iexact Hat
  iintro ⟨HO, Hat, -, Hpay⟩
  ihave Hs := (Entails.of_eq (rest_recv m c dir s k)) $$ Hpay
  imod (Rounds.cell_close ER (ringRd m) (Set.mem_univ (K (c, some (true, dir, s, k)))) (fun h => h) (R := 0 + 1) (duties_later m (cell c (true, dir, s, k)))) $$ [Hat] with Hz
  · isplitr; · iexact HI
    iexact Hat
  unfold rHold rPts
  icases Hs with ⟨%f, %hf, Hs⟩
  rw [rSl_set]
  iapply (wp_load 𝒱₀ (c : Thread nD τ) none Set.univ (m := rM dir) (r := (rRecv s k).toLoadRect) (S := (rM dir).view.setOn (rRecv s k).set) subset_rfl) $$ Hs; iintro Hs
  rw [hf]
  iapply Hk
  isplitl [Hs Hz]
  · isplitl [Hs]
    · unfold rAny rPts; iexists f; rw [rSl_set]; iexact Hs
    iexact Hz
  iexists _; iexact HO

end Cert.RingProof

end
-- ==== Proof.Rounds15.lean ====
/-
The steps of the ring, run one after another at a symbolic device: what a device holds between two steps, and the rules that
carry it over the opening sends, over one step, over all fourteen by induction, and over the end.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ)

/-! ## Things held for every send -/

/-- One step's four. -/
def grp (Φ : J → sProp 𝕄) (s : Fin 15) : sProp 𝕄 := iprop(Φ (false, s, 0) ∗ Φ (true, s, 0) ∗ Φ (false, s, 1) ∗ Φ (true, s, 1))
/-- Those of the steps from `s` on, and of the steps before `s`. -/
def onFrom (Φ : J → sProp 𝕄) (s : ℕ) : sProp 𝕄 := bigSep (rangeSet 15 s 15) (grp Φ)
def upTo (Φ : J → sProp 𝕄) (s : ℕ) : sProp 𝕄 := bigSep (rangeSet 15 0 s) (grp Φ)

/-- The steps from `s` on are step `s` and those after it. -/
theorem onFrom_take (Φ : J → sProp 𝕄) (s : Fin 15) : onFrom Φ s.val = iprop(grp Φ s ∗ onFrom Φ (s.val + 1)) := by
  unfold onFrom; rw [bigSep_rangeSet_head s.isLt s.isLt]
/-- The steps up to and including `s` are step `s` and those before it. -/
theorem upTo_put (Φ : J → sProp 𝕄) (s : Fin 15) : upTo Φ (s.val + 1) = iprop(grp Φ s ∗ upTo Φ s.val) := by
  unfold upTo; rw [bigSep_rangeSet_last (Nat.succ_pos _) s.isLt]; rfl
/-- There is no step before the first. -/
theorem upTo_zero (Φ : J → sProp 𝕄) : upTo Φ 0 = iprop(emp) := by unfold upTo; rw [bigSep_rangeSet_empty le_rfl]
/-- There is no step after the last. -/
theorem onFrom_end (Φ : J → sProp 𝕄) : onFrom Φ 15 = iprop(emp) := by unfold onFrom; rw [bigSep_rangeSet_empty le_rfl]

/-- A conjunction over all transfers is one over the steps, four transfers each. -/
theorem bigSep_univ_grp (Φ : J → sProp 𝕄) : bigSep Finset.univ Φ = bigSep Finset.univ (grp Φ) := by
  let e : (Fin 15 × Fin 2 × Bool) ≃ J := ⟨fun x => (x.2.2, x.1, x.2.1), fun x => (x.2.1, x.2.2, x.1), fun _ => rfl, fun _ => rfl⟩
  rw [bigSep_univ_equiv e Φ, bigSep_univ_prod]
  refine bigSep_congr fun s _ => ?_
  rw [bigSep_univ_eq_bigSepL [((0, false) : Fin 2 × Bool), (0, true), (1, false), (1, true)] (by decide) (by decide)]
  rfl
/-- All transfers are those of the steps from 0 on. -/
theorem onFrom_all (Φ : J → sProp 𝕄) : bigSep Finset.univ Φ = onFrom Φ 0 := by rw [bigSep_univ_grp]; unfold onFrom; rw [rangeSet_univ]
/-- All transfers are those of the steps before 15. -/
theorem upTo_all (Φ : J → sProp 𝕄) : bigSep Finset.univ Φ = upTo Φ 15 := by rw [bigSep_univ_grp]; unfold upTo; rw [rangeSet_univ]

/-! ## Slots -/

/-- The slot of a step is that of every step of the same parity. -/
theorem sAny_congr (c : Dev nD) (dir : Bool) {s s' : Fin 15} (k : Fin 2) (h : s.val % 2 = s'.val % 2) :
    (sAny c dir s k : sProp 𝕄) = sAny c dir s' k := by
  have g : ∀ (a b : ℕ) (_ : a = b) (ha : ∀ i, _) (hb : ∀ i, _),
      ((sM dir).slice (Rect.unit (s := S2x256x1024) ![a, 128 * k.val, 0] S1x128x1024.size ha) (fun _ => rfl)).squeeze S128x1024 squeezes_S1x128x1024_S128x1024
        = ((sM dir).slice (Rect.unit (s := S2x256x1024) ![b, 128 * k.val, 0] S1x128x1024.size hb) (fun _ => rfl)).squeeze S128x1024
            squeezes_S1x128x1024_S128x1024 := by rintro a _ rfl _ _; rfl
  have es : sSl dir s k = sSl dir s' k := g _ _ h _ _
  unfold sAny sPts; rw [es]

/-- The slot for step `i + 1`: free for the first two steps, later in flight from step `i - 1`. -/
def avail (c : Dev nD) (i : Fin 16) (dir : Bool) (k : Fin 2) : sProp 𝕄 := match i with
  | ⟨0, _⟩ => sAny c dir 1 k
  | ⟨i + 1, h⟩ => pend c (dir, ⟨i, by omega⟩, k)
/-- What its release leaves closed. -/
def freed (c : Dev nD) (i : Fin 16) (dir : Bool) (k : Fin 2) : sProp 𝕄 := match i with
  | ⟨0, _⟩ => iprop(emp)
  | ⟨i + 1, h⟩ => semVal (cell c (false, dir, ⟨i, by omega⟩, k)) 0
def availG (c : Dev nD) (i : Fin 16) : sProp 𝕄 := iprop(avail c i false 0 ∗ avail c i true 0 ∗ avail c i false 1 ∗ avail c i true 1)
def freedG (c : Dev nD) (i : Fin 16) : sProp 𝕄 := iprop(freed c i false 0 ∗ freed c i true 0 ∗ freed c i false 1 ∗ freed c i true 1)
/-- A send that is over. -/
abbrev sendDone (c : Dev nD) (j : J) : sProp 𝕄 := semVal (cell c (false, j)) 0

/-- After the first step the slot is in flight from the step before. -/
theorem avail_succ (c : Dev nD) (i : ℕ) (h : i + 1 < 16) (dir : Bool) (k : Fin 2) :
    (avail c ⟨i + 1, h⟩ dir k : sProp 𝕄) = pend c (dir, ⟨i, by omega⟩, k) := rfl
/-- After the first step a release leaves that send's counter at zero. -/
theorem freed_succ (c : Dev nD) (i : ℕ) (h : i + 1 < 16) (dir : Bool) (k : Fin 2) :
    (freed c ⟨i + 1, h⟩ dir k : sProp 𝕄) = semVal (cell c (false, dir, ⟨i, by omega⟩, k)) 0 := rfl
/-- A step's four slots after the first step are its four sends in flight. -/
theorem availG_succ (c : Dev nD) (s : Fin 15) : (availG c s.succ : sProp 𝕄) = grp (pend c) s := rfl
/-- What a step's release leaves closed joins the sends that are over. -/
theorem freedG_put (c : Dev nD) (s : Fin 15) : iprop(freedG c s.castSucc ∗ upTo (sendDone c) (s.val - 1)) ⊢ (upTo (sendDone c) s.val : sProp 𝕄) := by
  obtain ⟨_ | s, h⟩ := s
  · iintro ⟨-, H⟩; iexact H
  · have e : (freedG c (⟨s + 1, h⟩ : Fin 15).castSucc : sProp 𝕄) = grp (sendDone c) ⟨s, by omega⟩ := rfl
    rw [e, show (upTo (sendDone c) (⟨s + 1, h⟩ : Fin 15).val : sProp 𝕄) = _ from upTo_put (sendDone c) ⟨s, by omega⟩]
    exact Entails.refl _

/-- Waiting for the sends of step `s - 1` frees the two slots that step `s + 1` fills. -/
theorem wp_free {α : Type} {Q : α → sProp 𝕄} (K : Names) (c : Dev nD) (s : Fin 14) (k : Fin 2) (n : ℕ) (kt : P F α) :
    iprop(records m K ∗ levAts L lv ∗ avail c s.castSucc.castSucc false k ∗ avail c s.castSucc.castSucc true k ∗ owesE c (owed c n)
        ∗ ((sAny c false s.succ k ∗ sAny c true s.succ k ∗ freed c s.castSucc.castSucc false k ∗ freed c s.castSucc.castSucc true k ∗ owesE c (owed c n))
          -∗ wpc c kt Q))
      ⊢ wpc c (freeP s k kt) Q := by
  obtain ⟨_ | s, h⟩ := s
  · unfold freeP
    iintro ⟨#HR, #Hlev, H1, H2, HO, Hk⟩
    iapply Hk
    isplitl [H1]; · iapply (Entails.of_eq (show avail c ⟨0, by omega⟩ false k = sAny c false (Fin.succ ⟨0, h⟩) k from rfl)); iexact H1
    isplitl [H2]; · iapply (Entails.of_eq (show avail c ⟨0, by omega⟩ true k = sAny c true (Fin.succ ⟨0, h⟩) k from rfl)); iexact H2
    isplitr; · unfold freed; iempintro
    isplitr; · unfold freed; iempintro
    iexact HO
  · unfold freeP
    simp only [Fin.castSucc_mk, avail_succ, freed_succ]
    iintro ⟨#HR, #Hlev, H1, H2, HO, Hk⟩
    iapply (wp_waitSend m K c false ⟨s, _⟩ k n)
    isplitr; · iexact HR
    isplitr; · iexact Hlev
    isplitl [H1]; · iexact H1
    isplitl [HO]; · iexact HO
    iintro ⟨H1, Hz1, HO⟩
    iapply (wp_waitSend m K c true ⟨s, _⟩ k n)
    isplitr; · iexact HR
    isplitr; · iexact Hlev
    isplitl [H2]; · iexact H2
    isplitl [HO]; · iexact HO
    iintro ⟨H2, Hz2, HO⟩
    iapply Hk
    have e (dir : Bool) : (sAny c dir ⟨s, by omega⟩ k : sProp 𝕄) = sAny c dir (Fin.succ ⟨s + 1, h⟩) k :=
      sAny_congr c dir k (by show s % 2 = (s + 1 + 1) % 2; omega)
    isplitl [H1]; · iapply (Entails.of_eq (e false)); iexact H1
    isplitl [H2]; · iapply (Entails.of_eq (e true)); iexact H2
    isplitl [Hz1]; · iexact Hz1
    isplitl [Hz2]; · iexact Hz2
    iexact HO

/-! ## One step -/

/-- What is sent in step `s + 1` is the value received in step `s` with the device's own product added, packed. -/
theorem sent_next (c : Dev nD) (dir : Bool) (s : Fin 14) (k : Fin 2) :
    pack (addUp (sentV m (src c dir) dir s.castSucc k) (dotV m c dir ⟨s.val + 1, by omega⟩ k)) = sentV m c dir s.succ k := rfl

/-- One half of a step: both directions receive the value of step `s`, add the product and send the value of step `s + 1`. -/
theorem wp_half {α : Type} {Q : α → sProp 𝕄} (K : Names) (c : Dev nD) (s : Fin 14) (k : Fin 2) (n : ℕ) (hn : n = 4 * (s.val + 1) + 2 * k.val) (kt : P F α) :
    iprop(records m K ∗ levAts L lv ∗ sAny c false s.succ k ∗ sAny c true s.succ k ∗ sendKit c (false, s.succ, k) ∗ sendKit c (true, s.succ, k)
        ∗ recvKit c (false, s.castSucc, k) ∗ recvKit c (true, s.castSucc, k) ∗ owesE c (owed c n)
        ∗ ((pend c (false, s.succ, k) ∗ pend c (true, s.succ, k) ∗ recvDone c (false, s.castSucc, k) ∗ recvDone c (true, s.castSucc, k) ∗ owesE c (owed c (n + 2)))
          -∗ wpc c kt Q))
      ⊢ wpc c (halfP c s k (dotV m c false ⟨s.val + 1, by omega⟩ k) (dotV m c true ⟨s.val + 1, by omega⟩ k) kt) Q := by
  unfold halfP
  iintro ⟨#HR, #Hlev, Hs1, Hs2, Hk1, Hk2, Hr1, Hr2, HO, Hk⟩
  iapply (wp_recv m K c false s.castSucc k n (by simp only [num, Fin.val_castSucc, Bool.toNat_false]; omega))
  isplitr; · iexact HR
  isplitr; · iexact Hlev
  isplitl [Hr1]; · iexact Hr1
  isplitl [HO]; · iexact HO
  iintro ⟨Hr1, HO⟩
  iapply (wp_send m K c false s.succ k _ (sent_next m c false s k) n (by simp only [num, Fin.val_succ, Bool.toNat_false]; omega))
  isplitr; · iexact HR
  isplitl [Hs1]; · iexact Hs1
  isplitl [Hk1]; · iexact Hk1
  isplitl [HO]; · iexact HO
  iintro ⟨Hp1, HO⟩
  iapply (wp_recv m K c true s.castSucc k (n + 1) (by simp only [num, Fin.val_castSucc, Bool.toNat_true]; omega))
  isplitr; · iexact HR
  isplitr; · iexact Hlev
  isplitl [Hr2]; · iexact Hr2
  isplitl [HO]; · iexact HO
  iintro ⟨Hr2, HO⟩
  iapply (wp_send m K c true s.succ k _ (sent_next m c true s k) (n + 1) (by simp only [num, Fin.val_succ, Bool.toNat_true]; omega))
  isplitr; · iexact HR
  isplitl [Hs2]; · iexact Hs2
  isplitl [Hk2]; · iexact Hk2
  isplitl [HO]; · iexact HO
  iintro ⟨Hp2, HO⟩
  iapply Hk
  isplitl [Hp1]; · iexact Hp1
  isplitl [Hp2]; · iexact Hp2
  isplitl [Hr1]; · iexact Hr1
  isplitl [Hr2]; · iexact Hr2
  iexact HO

/-- What a device holds after step `s`: the sends of steps up to `s` made, the landings of the steps before `s` received. -/
def inv (c : Dev nD) (s : Fin 15) : sProp 𝕄 :=
  iprop(args m c ∗ owesE c (owed c (4 * (s.val + 1)))
    ∗ onFrom (sendKit c) (s.val + 1) ∗ onFrom (recvKit c) s.val ∗ upTo (recvDone c) s.val ∗ upTo (sendDone c) (s.val - 1)
    ∗ availG c s.castSucc ∗ availG c s.succ)

/-- One step takes the invariant from `s` to `s + 1`, with the next products at hand. -/
theorem wp_step {α : Type} {Q : α → sProp 𝕄} (K : Names) (c : Dev nD) (s : Fin 14) (kt : Dots F → P F α) :
    iprop(records m K ∗ levAts L lv ∗ inv m c s.castSucc ∗ (inv m c s.succ -∗ wpc c (kt (dotsV m c ⟨s.val + 2, by omega⟩)) Q))
      ⊢ wpc c (stepP c s (dotsV m c ⟨s.val + 1, by omega⟩) kt) Q := by
  unfold stepP inv
  rw [show (onFrom (sendKit c) (s.castSucc.val + 1) : sProp 𝕄) = _ from onFrom_take (sendKit c) s.succ, onFrom_take (recvKit c) s.castSucc]
  iintro ⟨#HR, #Hlev, ⟨Ha, HO, ⟨Hsk, Hsks⟩, ⟨Hrk, Hrks⟩, Hrd, Hsd, Hav, Hav'⟩, Hk⟩
  unfold grp availG
  icases Hsk with ⟨K1, K2, K3, K4⟩
  icases Hrk with ⟨R1, R2, R3, R4⟩
  icases Hav with ⟨A1, A2, A3, A4⟩
  iapply (wp_dots m c)
  isplitl [Ha]; · iexact Ha
  iintro Ha
  iapply (wp_free m K c s 0 (4 * (s.val + 1)))
  isplitr; · iexact HR
  isplitr; · iexact Hlev
  isplitl [A1]; · iexact A1
  isplitl [A2]; · iexact A2
  isplitl [HO]; · iexact HO
  iintro ⟨S1, S2, F1, F2, HO⟩
  iapply (wp_half m K c s 0 (4 * (s.val + 1)) (by simp))
  isplitr; · iexact HR
  isplitr; · iexact Hlev
  isplitl [S1]; · iexact S1
  isplitl [S2]; · iexact S2
  isplitl [K1]; · iexact K1
  isplitl [K2]; · iexact K2
  isplitl [R1]; · iexact R1
  isplitl [R2]; · iexact R2
  isplitl [HO]; · iexact HO
  iintro ⟨P1, P2, D1, D2, HO⟩
  iapply (wp_free m K c s 1 (4 * (s.val + 1) + 2))
  isplitr; · iexact HR
  isplitr; · iexact Hlev
  isplitl [A3]; · iexact A3
  isplitl [A4]; · iexact A4
  isplitl [HO]; · iexact HO
  iintro ⟨S3, S4, F3, F4, HO⟩
  iapply (wp_half m K c s 1 (4 * (s.val + 1) + 2) (by simp))
  isplitr; · iexact HR
  isplitr; · iexact Hlev
  isplitl [S3]; · iexact S3
  isplitl [S4]; · iexact S4
  isplitl [K3]; · iexact K3
  isplitl [K4]; · iexact K4
  isplitl [R3]; · iexact R3
  isplitl [R4]; · iexact R4
  isplitl [HO]; · iexact HO
  iintro ⟨P3, P4, D3, D4, HO⟩
  iapply Hk
  isplitl [Ha]; · iexact Ha
  isplitl [HO]; · iexact HO
  isplitl [Hsks]; · iexact Hsks
  isplitl [Hrks]; · iexact Hrks
  isplitl [Hrd D1 D2 D3 D4]
  · iapply (Entails.of_eq (show _ = (upTo (recvDone c) s.succ.val : sProp 𝕄) from (upTo_put (recvDone c) s.castSucc).symm))
    isplitl [D1 D2 D3 D4]
    · unfold grp
      isplitl [D1]; · iexact D1
      isplitl [D2]; · iexact D2
      isplitl [D3]; · iexact D3
      iexact D4
    iexact Hrd
  isplitl [Hsd F1 F2 F3 F4]
  · iapply (freedG_put (F := F) c s.castSucc)
    isplitl [F1 F2 F3 F4]
    · unfold freedG
      isplitl [F1]; · iexact F1
      isplitl [F2]; · iexact F2
      isplitl [F3]; · iexact F3
      iexact F4
    iexact Hsd
  isplitl [Hav']; · iexact Hav'
  iapply (Entails.of_eq (show grp (pend c) s.succ = iprop(avail c s.succ.succ false 0 ∗ avail c s.succ.succ true 0 ∗ avail c s.succ.succ false 1 ∗ avail c s.succ.succ true 1) from rfl))
  unfold grp
  isplitl [P1]; · iexact P1
  isplitl [P2]; · iexact P2
  isplitl [P3]; · iexact P3
  iexact P4

/-- The steps from `s` on, by induction on how many are left. -/
theorem wp_loop {α : Type} {Q : α → sProp 𝕄} (K : Names) (c : Dev nD) (kt : Dots F → P F α) :
    ∀ (n : ℕ) (hn : n ≤ 14) (s : ℕ) (hs : s + n = 14),
      iprop(records m K ∗ levAts L lv ∗ inv m c ⟨s, by omega⟩ ∗ (inv m c 14 -∗ wpc c (kt (dotsV m c 15)) Q))
        ⊢ wpc c (loopP c kt n hn (dotsV m c ⟨s + 1, by omega⟩)) Q
  | 0, hn, s, hs => by
    obtain rfl : s = 14 := by omega
    unfold loopP
    iintro ⟨-, -, HI, Hk⟩
    iapply Hk; iexact HI
  | n + 1, hn, s, hs => by
    obtain rfl : s = 13 - n := by omega
    unfold loopP
    iintro ⟨#HR, #Hlev, HI, Hk⟩
    iapply (wp_step m K c ⟨13 - n, _⟩)
    isplitr; · iexact HR
    isplitr; · iexact Hlev
    isplitl [HI]; · iexact HI
    iintro HI
    iapply (wp_loop K c kt n _ (13 - n + 1) (by omega))
    isplitr; · iexact HR
    isplitr; · iexact Hlev
    isplitl [HI]; · iexact HI
    iexact Hk

/-! ## The opening sends -/

/-- One half of the opening: both directions send the device's own first product. -/
theorem wp_first {α : Type} {Q : α → sProp 𝕄} (K : Names) (c : Dev nD) (k : Fin 2) (kt : P F α) :
    iprop(records m K ∗ args m c ∗ sAny c false 0 k ∗ sAny c true 0 k ∗ sendKit c (false, 0, k) ∗ sendKit c (true, 0, k) ∗ owesE c (owed c (2 * k.val))
        ∗ ((args m c ∗ pend c (false, 0, k) ∗ pend c (true, 0, k) ∗ owesE c (owed c (2 * k.val + 2))) -∗ wpc c kt Q))
      ⊢ wpc c (firstP c k kt) Q := by
  unfold firstP
  iintro ⟨#HR, Ha, S1, S2, K1, K2, HO, Hk⟩
  iapply (wp_dot m c); isplitl [Ha]; · iexact Ha
  iintro Ha
  iapply (wp_send m K c false 0 k _ rfl (2 * k.val) (by simp [num]))
  isplitr; · iexact HR
  isplitl [S1]; · iexact S1
  isplitl [K1]; · iexact K1
  isplitl [HO]; · iexact HO
  iintro ⟨P1, HO⟩
  iapply (wp_dot m c); isplitl [Ha]; · iexact Ha
  iintro Ha
  iapply (wp_send m K c true 0 k _ rfl (2 * k.val + 1) (by simp [num]))
  isplitr; · iexact HR
  isplitl [S2]; · iexact S2
  isplitl [K2]; · iexact K2
  isplitl [HO]; · iexact HO
  iintro ⟨P2, HO⟩
  iapply Hk
  isplitl [Ha]; · iexact Ha
  isplitl [P1]; · iexact P1
  isplitl [P2]; · iexact P2
  iexact HO

/-! ## The end -/

/-- The result staged at contents `f`. -/
def outPts (c : Dev nD) (f : (cc0_stg2_0 : Ref sig .tc).ty.Contents (Elt F)) : sProp 𝕄 := ((c : Thread nD τ).loc cc0_stg2_0) ↦{fullShare} f

/-- One block of the result, over what was there. -/
def putOut (c : Dev nD) (dir : Bool) (k : Fin 2) (f : (cc0_stg2_0 : Ref sig .tc).ty.Contents (Elt F)) : (cc0_stg2_0 : Ref sig .tc).ty.Contents (Elt F) :=
  (oM.access (rOut dir k)).write (Elt F) f (sumV m dir k 15 (by omega) c) Finset.univ

/-- One block of the result: the last value is received and its sum with the device's own product is stored. -/
theorem wp_out {α : Type} {Q : α → sProp 𝕄} (K : Names) (c : Dev nD) (dir : Bool) (k : Fin 2) (f : (cc0_stg2_0 : Ref sig .tc).ty.Contents (Elt F)) (kt : P F α) :
    iprop(records m K ∗ levAts L lv ∗ recvKit c (dir, 14, k) ∗ outPts c f ∗ owesE c (owed c 60)
        ∗ ((recvDone c (dir, 14, k) ∗ outPts c (putOut m c dir k f) ∗ owesE c (owed c 60)) -∗ wpc c kt Q))
      ⊢ wpc c (outP dir k (dotV m c dir 15 k) kt) Q := by
  unfold outP outPts
  iintro ⟨#HR, #Hlev, Hr, Ho, HO, Hk⟩
  iapply (wp_recv m K c dir 14 k 60 (num_lt _))
  isplitr; · iexact HR
  isplitr; · iexact Hlev
  isplitl [Hr]; · iexact Hr
  isplitl [HO]; · iexact HO
  iintro ⟨Hr, HO⟩
  iapply (wp_load 𝒱₀ (c : Thread nD τ) none Set.univ (m := oM) (Finset.subset_univ _)) $$ Ho; iintro Ho
  iapply (wp_store 𝒱₀ (c : Thread nD τ) none Set.univ (m := oM) (r := rOut dir k) (Mk := Finset.univ) (Finset.subset_univ _)) $$ Ho; iintro Ho
  iapply Hk
  isplitl [Hr]; · iexact Hr
  isplitl [Ho]; · iexact Ho
  iexact HO

/-- The staged result at the end. -/
def outAll (c : Dev nD) (f : (cc0_stg2_0 : Ref sig .tc).ty.Contents (Elt F)) : (cc0_stg2_0 : Ref sig .tc).ty.Contents (Elt F) :=
  putOut m c true 1 (putOut m c false 1 (putOut m c true 0 (putOut m c false 0 f)))

/-- What a device holds when its body ends. -/
def ended (c : Dev nD) (f : (cc0_stg2_0 : Ref sig .tc).ty.Contents (Elt F)) : sProp 𝕄 :=
  iprop(args m c ∗ outPts c (outAll m c f) ∗ owesE c 0 ∗ bigSep Finset.univ (recvDone c) ∗ bigSep Finset.univ (sendDone c)
    ∗ (grp (fun j => sAny c j.1 j.2.1 j.2.2) 13 ∗ grp (fun j => sAny c j.1 j.2.1 j.2.2) 14))

/-- From the invariant at the last step the body's end stores the whole result and waits out the last sends. -/
theorem wp_finish {Q : PUnit → sProp 𝕄} (K : Names) (c : Dev nD) (f : (cc0_stg2_0 : Ref sig .tc).ty.Contents (Elt F)) :
    iprop(records m K ∗ levAts L lv ∗ inv m c 14 ∗ outPts c f ∗ (ended m c f -∗ Q ⟨⟩)) ⊢ wpc c (finishP (dotsV m c 15)) Q := by
  unfold finishP inv ended outAll
  rw [← owed_end c, upTo_all, upTo_all, show (upTo (recvDone c) 15 : sProp 𝕄) = _ from upTo_put (recvDone c) 14,
    show (upTo (sendDone c) 15 : sProp 𝕄) = _ from upTo_put (sendDone c) 14, show (upTo (sendDone c) (14 : Fin 15).val : sProp 𝕄) = _ from upTo_put (sendDone c) 13,
    onFrom_take (recvKit c) 14, show (availG c (14 : Fin 15).castSucc : sProp 𝕄) = _ from availG_succ c 13, availG_succ c 14]
  unfold grp
  iintro ⟨#HR, #Hlev, ⟨Ha, HO, -, ⟨⟨R1, R2, R3, R4⟩, -⟩, Hrd, Hsd, ⟨P1, P2, P3, P4⟩, ⟨P5, P6, P7, P8⟩⟩, Ho, Hk⟩
  iapply (wp_out m K c false 0); isplitr; · iexact HR
  isplitr; · iexact Hlev
  isplitl [R1]; · iexact R1
  isplitl [Ho]; · iexact Ho
  isplitl [HO]; · iexact HO
  iintro ⟨R1, Ho, HO⟩
  iapply (wp_out m K c true 0); isplitr; · iexact HR
  isplitr; · iexact Hlev
  isplitl [R2]; · iexact R2
  isplitl [Ho]; · iexact Ho
  isplitl [HO]; · iexact HO
  iintro ⟨R2, Ho, HO⟩
  iapply (wp_out m K c false 1); isplitr; · iexact HR
  isplitr; · iexact Hlev
  isplitl [R3]; · iexact R3
  isplitl [Ho]; · iexact Ho
  isplitl [HO]; · iexact HO
  iintro ⟨R3, Ho, HO⟩
  iapply (wp_out m K c true 1); isplitr; · iexact HR
  isplitr; · iexact Hlev
  isplitl [R4]; · iexact R4
  isplitl [Ho]; · iexact Ho
  isplitl [HO]; · iexact HO
  iintro ⟨R4, Ho, HO⟩
  iapply (wp_waitSend m K c false 13 0 60); isplitr; · iexact HR
  isplitr; · iexact Hlev
  isplitl [P1]; · iexact P1
  isplitl [HO]; · iexact HO
  iintro ⟨S1, Z1, HO⟩
  iapply (wp_waitSend m K c true 13 0 60); isplitr; · iexact HR
  isplitr; · iexact Hlev
  isplitl [P2]; · iexact P2
  isplitl [HO]; · iexact HO
  iintro ⟨S2, Z2, HO⟩
  iapply (wp_waitSend m K c false 13 1 60); isplitr; · iexact HR
  isplitr; · iexact Hlev
  isplitl [P3]; · iexact P3
  isplitl [HO]; · iexact HO
  iintro ⟨S3, Z3, HO⟩
  iapply (wp_waitSend m K c true 13 1 60); isplitr; · iexact HR
  isplitr; · iexact Hlev
  isplitl [P4]; · iexact P4
  isplitl [HO]; · iexact HO
  iintro ⟨S4, Z4, HO⟩
  iapply (wp_waitSend m K c false 14 0 60); isplitr; · iexact HR
  isplitr; · iexact Hlev
  isplitl [P5]; · iexact P5
  isplitl [HO]; · iexact HO
  iintro ⟨S5, Z5, HO⟩
  iapply (wp_waitSend m K c true 14 0 60); isplitr; · iexact HR
  isplitr; · iexact Hlev
  isplitl [P6]; · iexact P6
  isplitl [HO]; · iexact HO
  iintro ⟨S6, Z6, HO⟩
  iapply (wp_waitSend m K c false 14 1 60); isplitr; · iexact HR
  isplitr; · iexact Hlev
  isplitl [P7]; · iexact P7
  isplitl [HO]; · iexact HO
  iintro ⟨S7, Z7, HO⟩
  iapply (wp_waitSend m K c true 14 1 60); isplitr; · iexact HR
  isplitr; · iexact Hlev
  isplitl [P8]; · iexact P8
  isplitl [HO]; · iexact HO
  iintro ⟨S8, Z8, HO⟩
  iapply (show Q ⟨⟩ ⊢ wpc c (.ret ⟨⟩) Q from fupd_intro)
  iapply Hk
  isplitl [Ha]; · iexact Ha
  isplitl [Ho]; · iexact Ho
  isplitl [HO]; · iexact HO
  isplitl [Hrd R1 R2 R3 R4]
  · isplitr [Hrd]
    · isplitl [R1]; · iexact R1
      isplitl [R2]; · iexact R2
      isplitl [R3]; · iexact R3
      iexact R4
    iexact Hrd
  isplitl [Hsd Z1 Z2 Z3 Z4 Z5 Z6 Z7 Z8]
  · isplitl [Z5 Z6 Z7 Z8]
    · isplitl [Z5]; · iexact Z5
      isplitl [Z6]; · iexact Z6
      isplitl [Z7]; · iexact Z7
      iexact Z8
    isplitr [Hsd]
    · isplitl [Z1]; · iexact Z1
      isplitl [Z2]; · iexact Z2
      isplitl [Z3]; · iexact Z3
      iexact Z4
    iexact Hsd
  isplitl [S1 S2 S3 S4]
  · isplitl [S1]; · iexact S1
    isplitl [S2]; · iexact S2
    isplitl [S3]; · iexact S3
    iexact S4
  · isplitl [S5]; · iexact S5
    isplitl [S6]; · iexact S6
    isplitl [S7]; · iexact S7
    iexact S8

end Cert.RingProof

end
-- ==== Proof.Body.lean ====
/-
The whole body at a symbolic device: the two signals and the wait on the barrier, then the steps of the ring.
-/
module

public import proofs.«01_k».proof.Proof.Rounds15

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ)

/-- What a device has for a send before the neighbour's piece arrives with the barrier. -/
def sendHold (c : Dev nD) (j : J) : sProp 𝕄 :=
  iprop(dutyTok ER (cell c (false, j)) 0 false ∗ dutyTok ER (cell (peer c j.1) (true, j)) 0 false ∗ atPos ER (cell c (false, j)) 0 ∅ 0)
/-- What it has for the barrier: its cell's position and credit, and the tokens of its two signals. -/
def barKit (c : Dev nD) : sProp 𝕄 :=
  iprop(atPos ER (barCell c) 0 ∅ 0 ∗ cred (tallyAt (barCell c) () 2) ∗ dutyTok ER (barCell (src c false)) 0 false ∗ dutyTok ER (barCell (src c true)) 0 true)

/-- The thirty pieces of each receive buffer, grouped by direction. -/
theorem rAny_split (Ψ : J → sProp 𝕄) : bigSep Finset.univ Ψ
    = iprop((bigSep Finset.univ fun sk : Fin 15 × Fin 2 => Ψ (false, sk)) ∗ bigSep Finset.univ fun sk : Fin 15 × Fin 2 => Ψ (true, sk)) := by
  rw [bigSep_univ_prod, bigSep_univ_eq_bigSepL [false, true] (by decide) (by decide)]
  rfl

/-- The round of a neighbour's barrier cell that `c` signals hands over the thirty pieces of `c`'s own receive buffer of that direction. -/
theorem payload_src (c : Dev nD) (d : Bool) : (ringRd (F := F) m).payload (barCell (src c d)) 0 d
    = bigSep Finset.univ fun sk : Fin 15 × Fin 2 => rAny c d sk.1 sk.2 := by
  rw [payload_bar]; unfold barPay; rw [peer_src]

/-- Joining what a device has for its sends with the neighbours' pieces. -/
theorem sendKit_one (c : Dev nD) (j : J) : iprop(sendHold c j ∗ rAny (peer c j.1) j.1 j.2.1 j.2.2) ⊢ (sendKit c j : sProp 𝕄) := by
  unfold sendKit sendHold
  iintro ⟨⟨H1, H2, H3⟩, H4⟩
  isplitl [H1]; · iexact H1
  isplitl [H2]; · iexact H2
  isplitl [H3]; · iexact H3
  iexact H4
/-- What a device has for its sends, with what both its barrier's signals bring, is all it needs for every send. -/
theorem sendKit_join (c : Dev nD) : iprop(bigSep Finset.univ (sendHold c) ∗ barPay c false ∗ barPay c true) ⊢ (bigSep Finset.univ (sendKit c) : sProp 𝕄) := by
  have e : (bigSep Finset.univ fun j : J => iprop(sendHold c j ∗ rAny (peer c j.1) j.1 j.2.1 j.2.2) : sProp 𝕄) ⊢ bigSep Finset.univ (sendKit c) :=
    bigSep_mono fun j _ => sendKit_one c j
  rw [bigSep_sep', rAny_split (fun j : J => rAny (peer c j.1) j.1 j.2.1 j.2.2)] at e
  exact e

/-- After the opening sends the invariant holds at step 0. -/
theorem inv_zero (c : Dev nD) : iprop(args m c ∗ owesE c (owed c 4) ∗ onFrom (sendKit c) 1 ∗ onFrom (recvKit c) 0
      ∗ grp (fun j => sAny c j.1 j.2.1 j.2.2) 1 ∗ grp (pend c) 0)
    ⊢ inv m c 0 := by
  unfold inv
  rw [show (upTo (recvDone c) (0 : Fin 15).val : sProp 𝕄) = _ from upTo_zero (recvDone c), show (upTo (sendDone c) ((0 : Fin 15).val - 1) : sProp 𝕄) = _ from upTo_zero (sendDone c),
    show (availG c (0 : Fin 15).castSucc : sProp 𝕄) = grp (fun j => sAny c j.1 j.2.1 j.2.2) 1 from rfl,
    availG_succ]
  iintro ⟨Ha, HO, Hs, Hr, Hsl, Hp⟩
  isplitl [Ha]; · iexact Ha
  isplitl [HO]; · iexact HO
  isplitl [Hs]; · iexact Hs
  isplitl [Hr]; · iexact Hr
  isplitr; · iempintro
  isplitr; · iempintro
  isplitl [Hsl]; · iexact Hsl
  iexact Hp

set_option maxHeartbeats 1000000 in
/-- The whole body: from its arguments, its kits, its buffers' pieces and what it owes at launch, a device ends with the result staged, owing nothing, and its barrier counter at zero. -/
theorem wp_body {Q : PUnit → sProp 𝕄} (K : Names) (c : Dev nD) (f : (cc0_stg2_0 : Ref sig .tc).ty.Contents (Elt F)) :
    iprop(records m K ∗ levAts L lv ∗ args m c ∗ outPts c f ∗ owesE c (O₀ c) ∗ barKit c ∗ bigSep Finset.univ (sendHold c) ∗ bigSep Finset.univ (recvKit c)
        ∗ bigSep Finset.univ (fun j : J => rAny c j.1 j.2.1 j.2.2) ∗ grp (fun j => sAny c j.1 j.2.1 j.2.2) 0 ∗ grp (fun j => sAny c j.1 j.2.1 j.2.2) 1
        ∗ ((ended m c f ∗ semVal (barCell c) 0) -∗ Q ⟨⟩))
      ⊢ wpc c bodyP Q := by
  unfold bodyP wpc
  simp only [semSignalWord, semWaitWord, Prog.lift, Prog.bind_op, Prog.bind_ret, Prog.pure_eq_ret, wp_deviceId]
  rw [rAny_split (fun j : J => rAny c j.1 j.2.1 j.2.2), dev1_eq, dev2_eq]
  unfold owesE barKit
  iintro ⟨#HR, #Hlev, Ha, Ho, ⟨%W, HO⟩, ⟨HatB, HcB, Ht1, Ht2⟩, Hsh, Hrk, ⟨Hr1, Hr2⟩, Hs0, Hs1, Hk⟩
  ihave #HIb := (records_inv m K (c, none)) $$ HR
  ihave #HI1 := (records_inv m K (src c false, none)) $$ HR
  ihave #HI2 := (records_inv m K (src c true, none)) $$ HR
  ihave #Hr1' := (records_reached m K (src c false, none)) $$ HR
  ihave #Hr2' := (records_reached m K (src c true, none)) $$ HR
  -- to the device before: the receive pieces of direction `false`
  iapply (Rounds.wp_signal 𝒱₀ ER (ringRd m) (c : Thread nD τ) none (dst := (src c false : Thread nD τ)) (κ := K (src c false, none))
      (d := false) (by rw [duties_bar]; exact Finset.mem_univ _) ((amount_bar m (src c false) false).trans (by decide)) () (O₁ c) rfl)
    $$ [HO Ht1 Hr1]
  · isplitr; · iexact HI1
    isplitl [HO]; · iexact HO
    isplitl [Ht1]; · iexact Ht1
    isplitl [Hr1]; · rw [payload_src]; iexact Hr1
    iexact Hr1'
  iintro HO
  unfold O₁
  -- to the next one: those of direction `true`
  iapply (Rounds.wp_signal 𝒱₀ ER (ringRd m) (c : Thread nD τ) none (dst := (src c true : Thread nD τ)) (κ := K (src c true, none))
      (d := true) (by rw [duties_bar]; exact Finset.mem_univ _) ((amount_bar m (src c true) true).trans (by decide)) () (owed c 0) rfl)
    $$ [HO Ht2 Hr2]
  · isplitr; · iexact HI2
    isplitl [HO]; · iexact HO
    isplitl [Ht2]; · iexact Ht2
    isplitl [Hr2]; · rw [payload_src]; iexact Hr2
    iexact Hr2'
  iintro HO
  -- both neighbours' signals, with the pieces this device sends into
  iapply (Rounds.wp_wait_rest_token 𝒱₀ ER (ringRd m) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB HO HatB]
  · isplitr; · iexact HIb
    isplitl [HcB]; · iexact HcB
    isplitl [HO]; · iexact HO
    isplitr; · iapply (mayWait_owed c 0 (.reg barS) (by rw [lv_bar]; omega)); iexact Hlev
    iexact HatB
  iintro ⟨HO, HatB, -, Hpay⟩
  ihave Hp := (Entails.of_eq (rest_bar m c)) $$ Hpay
  imod (Rounds.cell_close ER (ringRd m) (Set.mem_univ (K (c, none))) (fun h => h) (R := 0 + 1) (duties_later m (barCell c))) $$ [HatB] with HzB
  · isplitr; · iexact HIb
    iexact HatB
  ihave Hsk := (sendKit_join (F := F) c) $$ [Hsh Hp]
  · isplitl [Hsh]; · iexact Hsh
    iexact Hp
  ihave Hsk := (Entails.of_eq ((onFrom_all (F := F) (sendKit c)).trans (onFrom_take (sendKit c) 0))) $$ Hsk
  ihave Hrk := (Entails.of_eq (onFrom_all (F := F) (recvKit c))) $$ Hrk
  icases Hsk with ⟨Hsk, Hsks⟩
  unfold grp
  icases Hsk with ⟨K1, K2, K3, K4⟩
  icases Hs0 with ⟨S1, S2, S3, S4⟩
  iapply (wp_first m K c 0)
  isplitr; · iexact HR
  isplitl [Ha]; · iexact Ha
  isplitl [S1]; · iexact S1
  isplitl [S2]; · iexact S2
  isplitl [K1]; · iexact K1
  isplitl [K2]; · iexact K2
  isplitl [HO]; · unfold owesE; iexists _; iexact HO
  iintro ⟨Ha, P1, P2, HO⟩
  iapply (wp_first m K c 1)
  isplitr; · iexact HR
  isplitl [Ha]; · iexact Ha
  isplitl [S3]; · iexact S3
  isplitl [S4]; · iexact S4
  isplitl [K3]; · iexact K3
  isplitl [K4]; · iexact K4
  isplitl [HO]; · iexact HO
  iintro ⟨Ha, P3, P4, HO⟩
  iapply (wp_dots m c)
  isplitl [Ha]; · iexact Ha
  iintro Ha
  iapply (wp_loop m K c finishP 14 le_rfl 0 rfl)
  isplitr; · iexact HR
  isplitr; · iexact Hlev
  isplitl [Ha HO Hsks Hrk Hs1 P1 P2 P3 P4]
  · iapply (inv_zero m c)
    isplitl [Ha]; · iexact Ha
    isplitl [HO]; · iexact HO
    isplitl [Hsks]; · iexact Hsks
    isplitl [Hrk]; · iexact Hrk
    unfold grp
    isplitl [Hs1]; · iexact Hs1
    isplitl [P1]; · iexact P1
    isplitl [P2]; · iexact P2
    isplitl [P3]; · iexact P3
    iexact P4
  iintro HI
  iapply (wp_finish m K c f)
  isplitr; · iexact HR
  isplitr; · iexact Hlev
  isplitl [HI]; · iexact HI
  isplitl [Ho]; · iexact Ho
  iintro HE
  iapply Hk
  isplitl [HE]; · iexact HE
  iexact HzB

end Cert.RingProof

end
-- ==== Proof.Ghost.lean ====
/-
What the launch deals the devices: every cell's invariant, the positions and duty tokens, and the credit each cell's waits spend.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ)

/-! ## Cells and tokens -/

def ringCells : Finset (GSem nD τ sig) := Finset.univ.map ⟨kcell, kcell_injective⟩

/-- A device's own duties: the two of its barrier, and one of each transfer cell. -/
abbrev Duty : Type := Bool ⊕ Role
def dutyAt : Duty → Option Role × Bool
  | .inl d => (none, d)
  | .inr r => (some r, false)
/-- Different duties of a device have different cells or different names. -/
theorem dutyAt_injective : Function.Injective dutyAt := by
  rintro (a | a) (b | b) h
  · exact congrArg Sum.inl (congrArg Prod.snd h)
  · exact absurd (congrArg Prod.fst h) (by simp [dutyAt])
  · exact absurd (congrArg Prod.fst h) (by simp [dutyAt])
  · exact congrArg Sum.inr (Option.some.inj (congrArg Prod.fst h))
def tokOf (x : Dev nD × Duty) : GSem nD τ sig × ℕ × Bool := (kcell (x.1, (dutyAt x.2).1), 0, (dutyAt x.2).2)
/-- Different duties have different tokens. -/
theorem tokOf_injective : Function.Injective tokOf := by
  rintro ⟨c, x⟩ ⟨c', x'⟩ h
  have h1 := kcell_injective (congrArg Prod.fst h)
  have h2 : (dutyAt x).2 = (dutyAt x').2 := congrArg (fun y : GSem nD τ sig × ℕ × Bool => y.2.2) h
  have hc : c = c' := congrArg Prod.fst h1
  have hx : x = x' := dutyAt_injective (Prod.ext (congrArg Prod.snd h1) h2)
  rw [hc, hx]
def ringToks : Finset (GSem nD τ sig × ℕ × Bool) := Finset.univ.map ⟨tokOf, tokOf_injective⟩

/-- The launch's ghost state: the staging's and the ring's. -/
def u₀ : UU := (initOf (Pipeline.cells cfgs cellOf_inj) (Pipeline.launchToks cfgs cellOf_inj), initOf ringCells ringToks)

/-! ## Conjunctions over cells -/

/-- A conjunction over a device's cells is that of the barrier and those of the transfers. -/
theorem bigSep_opt (Φ : Option Role → sProp 𝕄) : bigSep Finset.univ Φ = iprop(Φ none ∗ bigSep Finset.univ fun r : Role => Φ (some r)) := by
  rw [bigSep_univ_equiv ((Equiv.sumComm PUnit.{1} Role).trans (Equiv.optionEquivSumPUnit Role).symm) Φ, bigSep_univ_sum, bigSep_univ_of_subsingleton PUnit.unit]
  rfl
/-- A conjunction over a device's transfer cells is that of the sends and that of the landings. -/
theorem bigSep_role (Φ : Role → sProp 𝕄) : bigSep Finset.univ Φ
    = iprop((bigSep Finset.univ fun j : J => Φ (false, j)) ∗ bigSep Finset.univ fun j : J => Φ (true, j)) := by
  rw [bigSep_univ_prod, bigSep_univ_eq_bigSepL [false, true] (by decide) (by decide)]
  rfl

/-! ## Funding -/

/-- The tokens of device `c`'s own cells. -/
def toks (c : Dev nD) : sProp 𝕄 :=
  iprop((dutyTok ER (barCell c) 0 false ∗ dutyTok ER (barCell c) 0 true)
    ∗ (bigSep Finset.univ fun j : J => dutyTok ER (cell c (false, j)) 0 false) ∗ bigSep Finset.univ fun j : J => dutyTok ER (cell c (true, j)) 0 false)
/-- What device `c` is dealt first. -/
def G (c : Dev nD) : sProp 𝕄 :=
  iprop((bigSep Finset.univ fun k : Option Role => roundState ER (ringRd m) (kcell (c, k)) 0)
    ∗ ((bigSep Finset.univ fun k : Option Role => atPos ER (kcell (c, k)) 0 ∅ 0) ∗ bigSep Finset.univ fun k : Option Role => reached ER (kcell (c, k)) 0) ∗ toks c)

/-- The tokens of a device's duties, taken one by one, are `toks`. -/
theorem toks_eq (c : Dev nD) : (bigSep Finset.univ fun x : Duty => (dutyTok ER (tokOf (c, x)).1 (tokOf (c, x)).2.1 (tokOf (c, x)).2.2 : sProp 𝕄)) = toks c := by
  rw [bigSep_univ_sum, bigSep_univ_eq_bigSepL [false, true] (by decide) (by decide), bigSep_role]
  rfl

/-- The ring's ghost state at launch deals every device the state of its cells, its positions in them and the tokens of its duties. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Role => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the cells' invariants -/

/-- The transfer semaphores of a device at zero. -/
theorem ownSems0_eq (c : Dev nD) : (Pipeline.ownSems0 (Ix := Unit) (Name := ℕ) (U := UU) (Lvl := ℕ) (Val := Elt F) (τ := τ) osem c : sProp 𝕄)
    = bigSep Finset.univ fun r : Role => semVal (cell c r) 0 := rfl
/-- The barrier's is its one semaphore outside the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero and the state of its cells are put under one invariant for each cell. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ ((bigSep Finset.univ fun k : Option Role => atPos ER (kcell (c, k)) 0 ∅ 0) ∗ bigSep Finset.univ fun k : Option Role => reached ER (kcell (c, k)) 0) ∗ toks c) := by
  unfold G
  rw [ownSems0_eq, unscopedSems0_eq]
  iintro ⟨Hos, Hus, Hst, Hat, Htok⟩
  ihave Hv := (Entails.of_eq (show iprop(semVal (barCell c) 0 ∗ bigSep Finset.univ fun r : Role => semVal (cell c r) 0)
      = (bigSep Finset.univ fun k : Option Role => semVal (kcell (c, k)) 0 : sProp 𝕄) from
        (bigSep_opt fun k : Option Role => (semVal (kcell (c, k)) 0 : sProp 𝕄)).symm)) $$ [Hos Hus]
  · isplitl [Hus] <;> iassumption
  imod (show iprop((bigSep Finset.univ fun k : Option Role => semVal (kcell (c, k)) 0) ∗ bigSep Finset.univ fun k : Option Role => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens round the ring -/

/-- The tokens of the duties device `c` pays. -/
def payToks (c : Dev nD) : sProp 𝕄 :=
  iprop((dutyTok ER (barCell (src c false)) 0 false ∗ dutyTok ER (barCell (src c true)) 0 true)
    ∗ (bigSep Finset.univ fun j : J => dutyTok ER (cell c (false, j)) 0 false)
    ∗ bigSep Finset.univ fun j : J => dutyTok ER (cell (peer c j.1) (true, j)) 0 false)
/-- What stays with device `c`. -/
def linear (c : Dev nD) : sProp 𝕄 := iprop((bigSep Finset.univ fun k : Option Role => atPos ER (kcell (c, k)) 0 ∅ 0) ∗ payToks c)
def G' (c : Dev nD) : sProp 𝕄 := iprop((∃ K, records m K) ∗ linear c)

/-- The landings' tokens go to the devices that send. -/
theorem recv_around : (bigSep Finset.univ fun c : Dev nD => bigSep Finset.univ fun j : J => (dutyTok ER (cell c (true, j)) 0 false : sProp 𝕄))
    = bigSep Finset.univ fun c : Dev nD => bigSep Finset.univ fun j : J => dutyTok ER (cell (peer c j.1) (true, j)) 0 false := by
  rw [bigSep_univ_comm fun (c : Dev nD) (j : J) => (dutyTok ER (cell c (true, j)) 0 false : sProp 𝕄),
    bigSep_univ_comm fun (c : Dev nD) (j : J) => (dutyTok ER (cell (peer c j.1) (true, j)) 0 false : sProp 𝕄)]
  exact bigSep_congr fun j _ => bigSep_univ_equiv (turn j.1) fun c : Dev nD => (dutyTok ER (cell c (true, j)) 0 false : sProp 𝕄)
/-- The tokens of every device's own cells are, together, the tokens of the duties every device pays. -/
theorem toks_around : (bigSep Finset.univ fun c : Dev nD => (toks c : sProp 𝕄)) ⊢ bigSep Finset.univ fun c : Dev nD => payToks c := by
  unfold toks payToks
  simp only [bigSep_sep']
  rw [recv_around, bigSep_univ_equiv (turn false).symm (fun c : Dev nD => (dutyTok ER (barCell c) 0 false : sProp 𝕄)),
    bigSep_univ_equiv (turn true).symm (fun c : Dev nD => (dutyTok ER (barCell c) 0 true : sProp 𝕄))]
  exact Entails.refl _

/-- A persistent fact may be used at every member of a conjunction. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with a device and the shared records make up `G'`. -/
theorem G'_intro (K : Names) (c : Dev nD) : iprop(records m K ∗ linear c) ⊢ G' m c := by
  unfold G'
  iintro ⟨#HR, Hl⟩
  isplitr; · iexists K; iexact HR
  iexact Hl

/-- All devices' invariants, positions and tokens together give every device the records and what stays with it. -/
theorem regroup :
    (bigSep Finset.univ fun c : Dev nD => iprop((bigSep Finset.univ fun k => iprop(∃ κ : ℕ, cellInv ER (ringRd m) κ (kcell (c, k))))
          ∗ ((bigSep Finset.univ fun k : Option Role => atPos ER (kcell (c, k)) 0 ∅ 0) ∗ bigSep Finset.univ fun k : Option Role => reached ER (kcell (c, k)) 0) ∗ toks c) : sProp 𝕄)
      ⊢ bigSep Finset.univ (G' m) := by
  rw [bigSep_sep', bigSep_sep', bigSep_sep', ← bigSep_univ_prod (fun ck : Dev nD × Option Role => iprop(∃ κ : ℕ, cellInv ER (ringRd m) κ (kcell ck))),
    ← bigSep_univ_prod (fun ck : Dev nD × Option Role => (reached ER (kcell ck) 0 : sProp 𝕄))]
  iintro ⟨HI, ⟨Hat, #HR⟩, Htok⟩
  ihave HK := (BI.bigSep_exists_pi Finset.univ (fun (ck : Dev nD × Option Role) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => G'_intro m K c)
  isplitr
  · unfold records; isplitl; · iexact HI
    iexact HR
  · unfold linear; rw [bigSep_sep']
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Equal cells are cells of one device and one semaphore. -/
theorem cell_dev {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩
/-- `d` hears from `c` exactly when `c` sends to `d`, read from either side. -/
theorem src_eq_iff (d c : Dev nD) (dir : Bool) : src d dir = c ↔ d = peer c dir :=
  ⟨fun h => by rw [← h, peer_src], fun h => by rw [h, src_peer]⟩

/-- No send owes anything to a barrier. -/
theorem owed_zero_bar (d c : Dev nD) : owed d 0 (barCell c) () = 0 := by
  by_contra h
  obtain ⟨j, -, hj⟩ := owed_pos (Nat.pos_of_ne_zero h)
  exact osem_ne_bar (true, j) (cell_dev hj).2.symm
/-- At launch a landing is owed its full credit by the device it is heard from, and nothing by any other. -/
theorem owed_zero_recv (d c : Dev nD) (j : J) : owed d 0 (cell c (true, j)) () = if d = src c j.1 then N else 0 := by
  unfold owed
  rw [Finset.sum_apply, Finsupp.finset_sum_apply, Finset.filter_true_of_mem fun _ _ => Nat.zero_le _, Finset.sum_eq_single j]
  · rw [tallyAt_apply]
    by_cases h : d = src c j.1
    · subst h; rw [peer_src, if_pos ⟨rfl, rfl⟩, if_pos rfl]
    · rw [if_neg fun h' => h (by rw [(cell_dev h'.1).1, src_peer]), if_neg h]
  · intro j' _ hj'
    rw [tallyAt_apply, if_neg fun h' => hj' (congrArg Prod.snd (osem_injective (cell_dev h'.1).2)).symm]
  · intro h; exact absurd (Finset.mem_univ j) h

/-- At launch a barrier is owed one unit by each of its two neighbours. -/
theorem owing_bar (d c : Dev nD) : O₀ d (barCell c) () = (if d = peer c true then 1 else 0) + (if d = peer c false then 1 else 0) := by
  unfold O₀ O₁
  rw [Pi.add_apply, Finsupp.add_apply, Pi.add_apply, Finsupp.add_apply, owed_zero_bar, Nat.zero_add, tallyAt_apply, tallyAt_apply]
  have e (dir : Bool) : ((barCell c = barCell (src d dir) ∧ () = ()) ↔ d = peer c dir) :=
    ⟨fun h => (src_eq_iff d c dir).mp (cell_dev h.1).1.symm, fun h => ⟨by rw [(src_eq_iff d c dir).mpr h], rfl⟩⟩
  congr 1
  · exact if_congr (e true) rfl rfl
  · exact if_congr (e false) rfl rfl
/-- All that is owed to a landing at launch is what its sender owes. -/
theorem owing_recv (d c : Dev nD) (j : J) : O₀ d (cell c (true, j)) () = if d = src c j.1 then N else 0 := by
  unfold O₀ O₁
  rw [Pi.add_apply, Finsupp.add_apply, Pi.add_apply, Finsupp.add_apply, owed_zero_recv,
    tallyAt_ne_cell (fun h => osem_ne_bar (true, j) (cell_dev h).2), tallyAt_ne_cell (fun h => osem_ne_bar (true, j) (cell_dev h).2), Finsupp.zero_apply,
    Nat.add_zero, Nat.add_zero]

/-- The launch gives a device credit 2 on its barrier. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owing_bar d c, Finset.sum_add_distrib,
    Finset.sum_ite_eq' Finset.univ (peer c true) fun _ => 1, Finset.sum_ite_eq' Finset.univ (peer c false) fun _ => 1, if_pos (Finset.mem_univ _), if_pos (Finset.mem_univ _)]
/-- The launch gives a device the credit of one transfer on each of its landings. -/
theorem launch_recv (c : Dev nD) (j : J) :
    tallyOn (cell c (true, j)) (launchCredit (Pipeline.owing O₀) 0 (cell c (true, j))) = (tallyAt (cell c (true, j)) () N : CellTallies nD τ sig Unit) := by
  unfold tallyAt; refine congrArg _ (Finsupp.ext fun u => ?_); cases u
  rw [Pipeline.launchCredit_owing, Finsupp.single_eq_same, Finset.sum_congr rfl fun d _ => owing_recv d c j, Finset.sum_ite_eq' Finset.univ (src c j.1) fun _ => N,
    if_pos (Finset.mem_univ _)]

/-- Two units on the barrier, a landing's on every receive cell. -/
theorem creds (c : Dev nD) :
    (Pipeline.launchCred O₀ c : sProp 𝕄) ⊢ iprop(cred (tallyAt (barCell c) () 2) ∗ bigSep Finset.univ fun j : J => cred (tallyAt (cell c (true, j)) () N)) := by
  unfold Pipeline.launchCred
  rw [bigSep_univ_at _ (SemLoc.reg barS), launch_bar]
  refine sep_mono_right ?_
  have e : (bigSep Finset.univ fun j : J => cred (tallyAt (cell c (true, j)) () N) : sProp 𝕄)
      = bigSep (Finset.univ.map ⟨fun j : J => osem (true, j), fun a b h => congrArg Prod.snd (osem_injective h)⟩)
          fun sm => cred (tallyOn ((c : Thread nD τ), sm) (launchCredit (Pipeline.owing O₀) 0 ((c : Thread nD τ), sm))) := by
    rw [bigSep_map]; exact bigSep_congr fun j _ => by rw [← launch_recv]; rfl
  rw [e]
  refine bigSep_subset fun sm h => ?_
  obtain ⟨j, -, rfl⟩ := Finset.mem_map.mp h
  exact Finset.mem_erase.mpr ⟨osem_ne_bar (true, j), Finset.mem_univ _⟩

/-! ## What a device starts from -/

def kits (c : Dev nD) : sProp 𝕄 := iprop(barKit c ∗ bigSep Finset.univ (sendHold c) ∗ bigSep Finset.univ (recvKit c))

/-- What stays with a device and its launch credits make up what it has for the barrier, its sends and its landings. -/
theorem kits_intro (c : Dev nD) : iprop(linear c ∗ Pipeline.launchCred O₀ c) ⊢ (kits c : sProp 𝕄) := by
  unfold kits linear payToks barKit sendHold recvKit
  rw [bigSep_opt, bigSep_role, bigSep_sep', bigSep_sep', bigSep_sep']
  iintro ⟨⟨⟨Hb, Hs, Hr⟩, ⟨T1, T2⟩, Ts, Tr⟩, Hc⟩
  ihave Hc := (creds (F := F) c) $$ Hc
  icases Hc with ⟨C1, Cr⟩
  isplitl [Hb T1 T2 C1]
  · isplitl [Hb]; · iexact Hb
    isplitl [C1]; · iexact C1
    isplitl [T1]; · iexact T1
    iexact T2
  isplitl [Ts Tr Hs]
  · isplitl [Ts]; · iexact Ts
    isplitl [Tr]; · iexact Tr
    iexact Hs
  isplitl [Hr]; · iexact Hr
  iexact Cr

end Cert.RingProof

end
-- ==== Proof.Pieces.lean ====
/-
The buffers of the ring, whole and piece by piece: the receive buffers are thirty pieces each, the send buffers four slots.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

/-! ## The element sets -/

/-- An index lies in the piece of step `s` and group `k` of a receive buffer exactly when its slot is `s` and its row is in group `k`. -/
theorem mem_rRecv (s : Fin 15) (k : Fin 2) (i : S15x256x1024.Idx) : i ∈ (rRecv s k).set ↔ (i 0).val = s.val ∧ (i 1).val / 128 = k.val := by
  rw [Rect.mem_set_unit]
  have h1 : (i 1).val < 256 := (i 1).isLt
  have h2 : (i 2).val < 1024 := (i 2).isLt
  constructor
  · intro h
    have a := h 0; have b := h 1
    simp at a b
    omega
  · rintro ⟨a, b⟩ x
    fin_cases x <;> simp <;> omega
/-- An index lies in the slot of step `s` and group `k` of a send buffer exactly when its slot is `s` modulo 2 and its row is in group `k`. -/
theorem mem_rSend (s : Fin 15) (k : Fin 2) (i : S2x256x1024.Idx) : i ∈ (rSend s k).set ↔ (i 0).val = s.val % 2 ∧ (i 1).val / 128 = k.val := by
  rw [Rect.mem_set_unit]
  have h1 : (i 1).val < 256 := (i 1).isLt
  have h2 : (i 2).val < 1024 := (i 2).isLt
  constructor
  · intro h
    have a := h 0; have b := h 1
    simp at a b
    omega
  · rintro ⟨a, b⟩ x
    fin_cases x <;> simp <;> omega

abbrev rSet (dir : Bool) (b : Fin 15 × Fin 2) : Finset (rM dir).view.ty.Idx := (rSl dir b.1 b.2).view.set
/-- The first two steps: their slots are the two slots of a send buffer. -/
def early (a : Fin 2) : Fin 15 := ⟨a.val, by omega⟩
/-- The slot of an early step is its number. -/
theorem early_mod (a : Fin 2) : (early a).val % 2 = a.val := Nat.mod_eq_of_lt a.isLt
/-- The two slots of a direction are those of steps 0 and 1. -/
abbrev sSet (dir : Bool) (b : Fin 2 × Fin 2) : Finset (sM dir).view.ty.Idx := (sSl dir (early b.1) b.2).view.set

/-- Different pieces of a receive buffer share no index. -/
theorem rSet_disjoint (dir : Bool) (b b' : Fin 15 × Fin 2) (h : b ≠ b') : Disjoint (rSet dir b) (rSet dir b') := by
  unfold rSet
  rw [rSl_set, rSl_set]
  refine (Finset.disjoint_map _).mpr (Finset.disjoint_left.mpr fun i hi hi' => h ?_)
  rw [mem_rRecv] at hi hi'
  exact Prod.ext (Fin.ext (hi.1.symm.trans hi'.1)) (Fin.ext (hi.2.symm.trans hi'.2))
/-- The view of a whole receive buffer reaches every index of it. -/
theorem rM_onto (dir : Bool) (i : (rM dir).view.ty.Idx) : ∃ y : S15x256x1024.Idx, (rM dir).view.emb y = i := by
  cases dir
  · exact ⟨i, rfl⟩
  · exact ⟨i, rfl⟩
/-- Every index of a receive buffer lies in some piece. -/
theorem rPiece_of (y : S15x256x1024.Idx) : ∃ b : Fin 15 × Fin 2, y ∈ (rRecv b.1 b.2).set := by
  have h1 : (y 1).val < 256 := (y 1).isLt
  refine ⟨(⟨(y 0).val, (y 0).isLt⟩, ⟨(y 1).val / 128, by omega⟩), ?_⟩
  rw [mem_rRecv]
  exact ⟨rfl, rfl⟩
/-- The thirty pieces make up the receive buffer. -/
theorem rSet_cover (dir : Bool) : Finset.univ.biUnion (rSet dir) = Finset.univ := by
  refine Finset.eq_univ_of_forall fun i => ?_
  obtain ⟨y, rfl⟩ := rM_onto dir i
  obtain ⟨b, hb⟩ := rPiece_of y
  refine Finset.mem_biUnion.mpr ⟨b, Finset.mem_univ _, ?_⟩
  unfold rSet
  rw [rSl_set, View.mem_setOn]
  exact hb
/-- Different pieces of a send buffer share no index. -/
theorem sSet_disjoint (dir : Bool) (b b' : Fin 2 × Fin 2) (h : b ≠ b') : Disjoint (sSet dir b) (sSet dir b') := by
  unfold sSet
  rw [sSl_set, sSl_set]
  refine (Finset.disjoint_map _).mpr (Finset.disjoint_left.mpr fun i hi hi' => h ?_)
  rw [mem_rSend] at hi hi'
  rw [early_mod] at hi hi'
  exact Prod.ext (Fin.ext (hi.1.symm.trans hi'.1)) (Fin.ext (hi.2.symm.trans hi'.2))
/-- The view of a whole send buffer reaches every index of it. -/
theorem sM_onto (dir : Bool) (i : (sM dir).view.ty.Idx) : ∃ y : S2x256x1024.Idx, (sM dir).view.emb y = i := by
  cases dir
  · exact ⟨i, rfl⟩
  · exact ⟨i, rfl⟩
/-- Every index of a send buffer lies in some piece. -/
theorem sPiece_of (y : S2x256x1024.Idx) : ∃ b : Fin 2 × Fin 2, y ∈ (rSend (early b.1) b.2).set := by
  have h1 : (y 1).val < 256 := (y 1).isLt
  refine ⟨(⟨(y 0).val, (y 0).isLt⟩, ⟨(y 1).val / 128, by omega⟩), ?_⟩
  rw [mem_rSend, early_mod]
  exact ⟨rfl, rfl⟩
/-- The four pieces make up the send buffer. -/
theorem sSet_cover (dir : Bool) : Finset.univ.biUnion (sSet dir) = Finset.univ := by
  refine Finset.eq_univ_of_forall fun i => ?_
  obtain ⟨y, rfl⟩ := sM_onto dir i
  obtain ⟨b, hb⟩ := sPiece_of y
  refine Finset.mem_biUnion.mpr ⟨b, Finset.mem_univ _, ?_⟩
  unfold sSet
  rw [sSl_set, View.mem_setOn]
  exact hb

/-! ## The buffers -/

/-- A direction's whole receive buffer, and its whole send buffer, at any contents. -/
def rWhole (c : Dev nD) (dir : Bool) : sProp 𝕄 := iprop(∃ f : Buf (Elt F) ((rM dir).view.loc (c : Thread nD τ)), (rM dir).view.loc (c : Thread nD τ) ↦{fullShare} f)
def sWhole (c : Dev nD) (dir : Bool) : sProp 𝕄 := iprop(∃ f : Buf (Elt F) ((sM dir).view.loc (c : Thread nD τ)), (sM dir).view.loc (c : Thread nD τ) ↦{fullShare} f)

/-- One piece of a receive buffer at known contents is that piece at some contents. -/
theorem rAny_one (c : Dev nD) (dir : Bool) (f : Buf (Elt F) ((rM dir).view.loc (c : Thread nD τ))) (b : Fin 15 × Fin 2) :
    ((rM dir).view.loc (c : Thread nD τ) ↦[rSet dir b]{fullShare} f : sProp 𝕄) ⊢ rAny c dir b.1 b.2 := by
  unfold rAny rPts; iintro H; iexists f; iexact H
/-- One piece of a send buffer at known contents is that piece at some contents. -/
theorem sAny_one (c : Dev nD) (dir : Bool) (f : Buf (Elt F) ((sM dir).view.loc (c : Thread nD τ))) (b : Fin 2 × Fin 2) :
    ((sM dir).view.loc (c : Thread nD τ) ↦[sSet dir b]{fullShare} f : sProp 𝕄) ⊢ sAny c dir (early b.1) b.2 := by
  unfold sAny sPts; iintro H; iexists f; iexact H

/-- A whole receive buffer splits into its thirty pieces. -/
theorem rWhole_split (c : Dev nD) (dir : Bool) : (rWhole c dir : sProp 𝕄) ⊢ bigSep Finset.univ fun b : Fin 15 × Fin 2 => rAny c dir b.1 b.2 := by
  unfold rWhole
  iintro ⟨%f, H⟩
  ihave H := (Entails.of_eq (pointsTo_blocks (ℓ := (rM dir).view.loc (c : Thread nD τ)) (rSet dir) (rSet_disjoint dir) (rSet_cover dir) f)) $$ H
  iapply (show (bigSep Finset.univ fun b : Fin 15 × Fin 2 => ((rM dir).view.loc (c : Thread nD τ) ↦[rSet dir b]{fullShare} f : sProp 𝕄)) ⊢
    bigSep Finset.univ fun b : Fin 15 × Fin 2 => rAny c dir b.1 b.2 from bigSep_mono fun b _ => rAny_one c dir f b)
  iexact H
/-- The thirty pieces of a receive buffer join to the whole of it. -/
theorem rWhole_join (c : Dev nD) (dir : Bool) (f₀ : Buf (Elt F) ((rM dir).view.loc (c : Thread nD τ))) :
    (bigSep Finset.univ fun b : Fin 15 × Fin 2 => rAny c dir b.1 b.2 : sProp 𝕄) ⊢ rWhole c dir := by
  unfold rWhole rAny rPts
  exact pointsTo_blocks_join_exists (ℓ := (rM dir).view.loc (c : Thread nD τ)) (rSet dir) (rSet_disjoint dir) (rSet_cover dir) f₀
/-- A whole send buffer splits into its four pieces. -/
theorem sWhole_split (c : Dev nD) (dir : Bool) : (sWhole c dir : sProp 𝕄) ⊢ bigSep Finset.univ fun b : Fin 2 × Fin 2 => sAny c dir (early b.1) b.2 := by
  unfold sWhole
  iintro ⟨%f, H⟩
  ihave H := (Entails.of_eq (pointsTo_blocks (ℓ := (sM dir).view.loc (c : Thread nD τ)) (sSet dir) (sSet_disjoint dir) (sSet_cover dir) f)) $$ H
  iapply (show (bigSep Finset.univ fun b : Fin 2 × Fin 2 => ((sM dir).view.loc (c : Thread nD τ) ↦[sSet dir b]{fullShare} f : sProp 𝕄)) ⊢
    bigSep Finset.univ fun b : Fin 2 × Fin 2 => sAny c dir (early b.1) b.2 from bigSep_mono fun b _ => sAny_one c dir f b)
  iexact H
/-- The four pieces of a send buffer join to the whole of it. -/
theorem sWhole_join (c : Dev nD) (dir : Bool) (f₀ : Buf (Elt F) ((sM dir).view.loc (c : Thread nD τ))) :
    (bigSep Finset.univ fun b : Fin 2 × Fin 2 => sAny c dir (early b.1) b.2 : sProp 𝕄) ⊢ sWhole c dir := by
  unfold sWhole sAny sPts
  exact pointsTo_blocks_join_exists (ℓ := (sM dir).view.loc (c : Thread nD τ)) (sSet dir) (sSet_disjoint dir) (sSet_cover dir) f₀

/-- The slots of both directions, step by step. -/
abbrev slots (c : Dev nD) (s : Fin 15) : sProp 𝕄 := grp (fun j => sAny c j.1 j.2.1 j.2.2) s
/-- Steps of the same parity use the same slots. -/
theorem slots_congr (c : Dev nD) {s s' : Fin 15} (h : s.val % 2 = s'.val % 2) : (slots c s : sProp 𝕄) = slots c s' := by
  unfold slots grp
  show iprop(sAny c false s 0 ∗ sAny c true s 0 ∗ sAny c false s 1 ∗ sAny c true s 1) = _
  rw [sAny_congr c false 0 h, sAny_congr c true 0 h, sAny_congr c false 1 h, sAny_congr c true 1 h]

/-- The four pieces of a send buffer, written out one by one. -/
theorem slots_eq (c : Dev nD) (dir : Bool) : (bigSep Finset.univ fun b : Fin 2 × Fin 2 => sAny c dir (early b.1) b.2 : sProp 𝕄)
    = iprop(sAny c dir 0 0 ∗ sAny c dir 0 1 ∗ sAny c dir 1 0 ∗ sAny c dir 1 1) := by
  rw [bigSep_univ_eq_bigSepL [((0, 0) : Fin 2 × Fin 2), (0, 1), (1, 0), (1, 1)] (by decide) (by decide)]
  rfl
/-- Both send buffers split into the slots of step 0 and those of step 1. -/
theorem slots_split (c : Dev nD) : iprop(sWhole c false ∗ sWhole c true) ⊢ (iprop(slots c 0 ∗ slots c 1) : sProp 𝕄) := by
  iintro ⟨Hf, Hb⟩
  ihave Hf := (sWhole_split c false) $$ Hf
  ihave Hb := (sWhole_split c true) $$ Hb
  ihave Hf := (Entails.of_eq (slots_eq c false)) $$ Hf
  ihave Hb := (Entails.of_eq (slots_eq c true)) $$ Hb
  icases Hf with ⟨F1, F2, F3, F4⟩
  icases Hb with ⟨B1, B2, B3, B4⟩
  unfold slots grp
  isplitl [F1 F2 B1 B2]
  · isplitl [F1]; · iexact F1
    isplitl [B1]; · iexact B1
    isplitl [F2]; · iexact F2
    iexact B2
  isplitl [F3]; · iexact F3
  isplitl [B3]; · iexact B3
  isplitl [F4]; · iexact F4
  iexact B4
/-- The slots of step 0 and those of step 1 join to both send buffers. -/
theorem slots_join (c : Dev nD) (f₀ : Buf (Elt F) ((sM false).view.loc (c : Thread nD τ))) (g₀ : Buf (Elt F) ((sM true).view.loc (c : Thread nD τ))) :
    iprop(slots c 0 ∗ slots c 1) ⊢ (iprop(sWhole c false ∗ sWhole c true) : sProp 𝕄) := by
  unfold slots grp
  iintro ⟨⟨F1, B1, F2, B2⟩, ⟨F3, B3, F4, B4⟩⟩
  isplitl [F1 F2 F3 F4]
  · iapply (sWhole_join c false f₀)
    iapply (Entails.of_eq (slots_eq c false).symm)
    isplitl [F1]; · iexact F1
    isplitl [F2]; · iexact F2
    isplitl [F3]; · iexact F3
    iexact F4
  · iapply (sWhole_join c true g₀)
    iapply (Entails.of_eq (slots_eq c true).symm)
    isplitl [B1]; · iexact B1
    isplitl [B2]; · iexact B2
    isplitl [B3]; · iexact B3
    iexact B4

end Cert.RingProof

end
-- ==== Proof.Run.lean ====
/-
The run: the body as the launch asks for it on every device, and `main` from any memory.
-/
module

public import proofs.«01_k».proof.Proof.Ghost
public import proofs.«01_k».proof.Proof.Pieces
public import proofs.«01_k».proof.Proof.Gen.KernelIdeal.Points
public import Idealize.ShloMosaic.Lib.Writes
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-! ## The result a device leaves -/

/-- A position of a block of 128 by 1024. -/
def at2 (r : ℕ) (hr : r < 128) (q : ℕ) (hq : q < 1024) : S128x1024.Idx := fun a => match a with
  | ⟨0, _⟩ => ⟨r, hr⟩
  | ⟨1, _⟩ => ⟨q, hq⟩

/-- Each quarter of the result is the sum that came round the ring for it. -/
def outV (c : Dev nD) (i : S256x2048.Idx) : F .f32 :=
  sumV m (decide (1024 ≤ (i 1).val)) ⟨(i 0).val / 128, by have : (i 0).val < 256 := (i 0).isLt; omega⟩ 15 (by omega) c
    (at2 ((i 0).val % 128) (Nat.mod_lt _ (by omega)) ((i 1).val % 1024) (Nat.mod_lt _ (by omega)))

/-- The result at a row of group `k` and a column of the half of `dir` is the full sum there. -/
theorem outV_at (c : Dev nD) (dir : Bool) (k : Fin 2) (x : S128x1024.Idx) (i : S256x2048.Idx) (h0 : (i 0).val = 128 * k.val + (x 0).val)
    (h1 : (i 1).val = half dir + (x 1).val) : outV m c i = sumV m dir k 15 (by omega) c x := by
  have x0 : (x 0).val < 128 := (x 0).isLt
  have x1 : (x 1).val < 1024 := (x 1).isLt
  have ed : decide (1024 ≤ (i 1).val) = dir := by
    cases dir
    · exact decide_eq_false (by rw [h1]; show ¬1024 ≤ 0 + _; omega)
    · exact decide_eq_true (by rw [h1]; show 1024 ≤ 1024 + _; omega)
  have hm : (half dir + (x 1).val) % 1024 = (x 1).val := by
    cases dir
    · show (0 + _) % 1024 = _; omega
    · show (1024 + _) % 1024 = _; omega
  have ek : ∀ h, (⟨(i 0).val / 128, h⟩ : Fin 2) = k := fun h => Fin.ext (by show (i 0).val / 128 = k.val; omega)
  have ex : ∀ h h', at2 ((i 0).val % 128) h ((i 1).val % 1024) h' = x := fun h h' => funext fun a => match a with
    | ⟨0, _⟩ => Fin.ext (show (i 0).val % 128 = (x 0).val by omega)
    | ⟨1, _⟩ => Fin.ext (show (i 1).val % 1024 = (x 1).val by rw [h1, hm])
  unfold outV
  rw [ed, ek, ex]

/-- The four stores, the last first. -/
def outPieces (c : Dev nD) : List (View.Piece (Elt F) S256x2048 .f32) :=
  [⟨rOut true 1, sumV m true 1 15 (by omega) c⟩, ⟨rOut false 1, sumV m false 1 15 (by omega) c⟩, ⟨rOut true 0, sumV m true 0 15 (by omega) c⟩,
    ⟨rOut false 0, sumV m false 0 15 (by omega) c⟩]
/-- Each block's sum is the result read at that block. -/
theorem outPiece_at (c : Dev nD) (dir : Bool) (k : Fin 2) (x : S128x1024.Idx) : sumV m dir k 15 (by omega) c x = outV m c ((rOut dir k).emb x) :=
  (outV_at m c dir k x _ (by show 128 * k.val + 1 * (x 0).val = _; omega) (by show half dir + 1 * (x 1).val = _; omega)).symm
/-- All four blocks agree with the result. -/
theorem outPieces_agree (c : Dev nD) : ∀ p ∈ outPieces m c, ∀ x : p.1.shape.Idx, p.2 x = outV m c (p.1.emb x) := by
  intro p hp
  simp only [outPieces, List.mem_cons, List.not_mem_nil, or_false] at hp
  rcases hp with rfl | rfl | rfl | rfl
  · exact outPiece_at m c true 1
  · exact outPiece_at m c false 1
  · exact outPiece_at m c true 0
  · exact outPiece_at m c false 0
/-- The stores reach every position. -/
theorem outPieces_cover (c : Dev nD) (i : S256x2048.Idx) : ∃ p ∈ outPieces m c, i ∈ p.1.set :=
  View.cover_of_tiled (outPieces m c) S128x1024.size rfl i
/-- After the four stores the staged result is `outV`, whatever was there before. -/
theorem outAll_eq (c : Dev nD) (f : (cc0_stg2_0 : Ref sig .tc).ty.Contents (Elt F)) : outAll m c f = outV m c := by
  funext i
  have h := View.read_writes_apply_of_pieces (View.whole cc0_stg2_0) f (outV m c) (outPieces m c) (outPieces_agree m c) i (outPieces_cover m c i)
  rw [View.read_whole] at h
  exact h

/-! ## The point before and after -/

/-- The ring's four buffers. -/
def bufs (c : Dev nD) : sProp 𝕄 := iprop(sWhole c false ∗ sWhole c true ∗ rWhole c false ∗ rWhole c true)
/-- The launch's remaining buffers are the four of the ring. -/
theorem rest_eq (c : Dev nD) : (Pipeline.scopedRest (Ix := Unit) (Name := ℕ) (U := UU) (Lvl := ℕ) (Val := Elt F) spec0 c : sProp 𝕄) = bufs c :=
  (scopedRest0_eq c).trans rfl

def start (c : Dev nD) : sProp 𝕄 := iprop((∃ K, records m K) ∗ kits c ∗ levAts L lv)
def Φ₀ (c : Dev nD) : sProp 𝕄 := iprop(start m c ∗ bufs c)
def Φ₁ (c : Dev nD) : sProp 𝕄 :=
  iprop(semVal (barCell c) 0 ∗ Pipeline.ownSems0 (Ix := Unit) (Name := ℕ) (U := UU) (Lvl := ℕ) (Val := Elt F) (τ := τ) osem c ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer at contents `X` is having its location at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xstg m c) ∗ stg c cc0_stg1_0 (wstg m c) ∗ stg c cc0_stg2_0 (outV m c))

include m in
/-- What the body leaves is the buffers whole again and every transfer semaphore at zero. -/
theorem ended_exit (c : Dev nD) :
    iprop(bigSep Finset.univ (recvDone c) ∗ bigSep Finset.univ (sendDone c) ∗ slots c 13 ∗ slots c 14)
      ⊢ (iprop(Pipeline.ownSems0 (Ix := Unit) (Name := ℕ) (U := UU) (Lvl := ℕ) (Val := Elt F) (τ := τ) osem c ∗ bufs c) : sProp 𝕄) := by
  unfold recvDone bufs
  rw [ownSems0_eq, bigSep_role, bigSep_sep', rAny_split fun j : J => rAny c j.1 j.2.1 j.2.2, slots_congr c (s := 13) (s' := 1) rfl, slots_congr c (s := 14) (s' := 0) rfl]
  iintro ⟨⟨⟨R1, R2⟩, Zr⟩, Zs, S1, S0⟩
  isplitl [Zr Zs]
  · isplitl [Zs]; · iexact Zs
    iexact Zr
  ihave Hs := (slots_join c (m _) (m _)) $$ [S0 S1]
  · isplitl [S0]; · iexact S0
    iexact S1
  icases Hs with ⟨Hf, Hb⟩
  isplitl [Hf]; · iexact Hf
  isplitl [Hb]; · iexact Hb
  isplitl [R1]
  · iapply (rWhole_join c false (m _)); iexact R1
  · iapply (rWhole_join c true (m _)); iexact R2

/-- The body takes what a device has before it to what it has after it. -/
theorem sound_body (c : Dev nD) : bodyPre m ρ c ⊢ wpc c bodyP (fun _ => bodyPost m ρ c) := by
  unfold bodyPre Φ₀ start kits bufs bodyPost
  iintro ⟨⟨⟨⟨%K, #HR⟩, ⟨Hb, Hs, Hr⟩, #Hlev⟩, Sf, Sb, Rf, Rb⟩, Ho, ⟨%d0, %g0, %h0, Hx⟩, ⟨%d1, %g1, %h1, Hw⟩, ⟨%d2, %g2, %h2, Hout⟩⟩
  have hx : g0 = xstg m c := by rw [h0]; unfold Dat.before; rw [if_pos (fetch0_0 t0_0)]; rfl
  have hw : g1 = wstg m c := by rw [h1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl, show (dats m ρ 0 c).owed t0_0.succ = 0 from rfl]
  ihave Hsl := (slots_split c) $$ [Sf Sb]
  · isplitl [Sf]; · iexact Sf
    iexact Sb
  icases Hsl with ⟨S0, S1⟩
  ihave Rf := (rWhole_split c false) $$ Rf
  ihave Rb := (rWhole_split c true) $$ Rb
  iapply (wp_body m K c g2)
  isplitr; · iexact HR
  isplitr; · iexact Hlev
  isplitl [Hx Hw]
  · unfold args
    isplitl [Hx]; · iexact Hx
    iexact Hw
  isplitl [Hout]; · unfold outPts; iexact Hout
  isplitl [HO]; · unfold owesE; iexists W; iexact HO
  isplitl [Hb]; · iexact Hb
  isplitl [Hs]; · iexact Hs
  isplitl [Hr]; · iexact Hr
  isplitl [Rf Rb]
  · iapply (Entails.of_eq (rAny_split fun j : J => (rAny c j.1 j.2.1 j.2.2 : sProp 𝕄)).symm)
    isplitl [Rf]; · iexact Rf
    iexact Rb
  isplitl [S0]; · iexact S0
  isplitl [S1]; · iexact S1
  unfold ended args outPts owesE
  rw [outAll_eq]
  iintro ⟨⟨⟨Hx, Hw⟩, Hout, ⟨%W', HO⟩, Hrd, Hsd, Hs13, Hs14⟩, HzB⟩
  ihave He := (ended_exit m c) $$ [Hrd Hsd Hs13 Hs14]
  · isplitl [Hrd]; · iexact Hrd
    isplitl [Hsd]; · iexact Hsd
    isplitl [Hs13]; · iexact Hs13
    iexact Hs14
  isplitl [He HzB]
  · unfold Φ₁
    isplitl [HzB]; · iexact HzB
    iexact He
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 20000 in
/-- The body as the launch asks for it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 cc0_scratch6 cc0_scratch7)
    (fun _ => bodyPost m ρ c)
  rw [body_eq]
  exact sound_body m ρ c

/-! ## The launch -/

set_option maxRecDepth 100000 in
/-- The transfer semaphores are distinct and apart from the launch's own. -/
theorem ownSemFacts : Pipeline.OwnSemFacts cfg0.spec osem := by decide

/-- Every window's array is held in full. -/
theorem share_eq (c : Dev nD) (w : Fin cfg0.W) : (dats m ρ 0 c).share w = fullShare := by unfold Dat.share; split <;> rfl

/-- What the launch hands a device gives what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, HR, Hl⟩
  ihave Hk := (kits_intro (F := F) c) $$ [Hl Hcr]
  · isplitl [Hl]; · iexact Hl
    iexact Hcr
  imodintro
  isplitl
  · isplitl [HR]; · iexact HR
    isplitl [Hk]; · iexact Hk
    iexact Hlev
  · iempintro

/-- With its remaining buffers that is what holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = bufs c from rest_eq c]
  unfold Φ₀
  iintro ⟨Hs, -, Hr⟩
  isplitl [Hs]; · iexact Hs
  iexact Hr

/-- What holds after the body gives back every counter at zero and the buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = bufs c from rest_eq c, unscopedSems0_eq]
  exact Entails.refl _

/-- The launch's own waits are allowed at their ranks. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of a window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- From any memory with zero counters, for any float values: every weakly fair execution of `main` on the sixteen devices ends, each window's array
    at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_x (c : Dev nD) : finalA m ρ c (0 : Fin 3) = m ((c : Thread nD τ).loc main_arg0) := (dats (F := F) m ρ 0 c).arrAt_in (0 : Fin 3) rfl _
/-- The run leaves `w` as it was. -/
theorem finalA_w (c : Dev nD) : finalA m ρ c (1 : Fin 3) = m ((c : Thread nD τ).loc main_arg1) := (dats (F := F) m ρ 0 c).arrAt_in (1 : Fin 3) rfl _

end Cert.RingProof

end
-- ==== Proof.Frames.lean ====
/-
The frames: both kernels and the reference end with their arguments unchanged and every semaphore at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.RingProof

open Idealize.ShloMosaic Idealize.ShloMosaic.TcCoe Idealize.SL.Sem

/-- The run, read at the two arguments and the counters. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => ⟨(h.1 c (0 : Fin 3)).trans (finalA_x m ρ c), (h.1 c (1 : Fin 3)).trans (finalA_w m ρ c)⟩, h.2⟩)
    (run_main m ρ)

/-- The program over the extended reals. -/
theorem frame_ideal : Cert.quiescent_KernelIdeal := fun m ρ _ => frame_run (F := Ideal) m ρ

/-- The two programs have the same text, so their body tables are one table, -/
theorem defs₀_same {F : FTy → Type} [FloatOps F] : Cert.Kernel.defs₀ (F := F) = Cert.KernelIdeal.defs₀ :=
  congrArg (Defs.onTc (nD := Cert.KernelIdeal.nD) (τ := Cert.KernelIdeal.τ) (sig := Cert.KernelIdeal.sig) (Val := Elt F) (Λ := Cert.KernelIdeal.Λ₀))
    (funext fun l => funext fun a => match l, a with
      | ⟨0, _⟩, _ => rfl
      | ⟨_ + 1, h⟩, _ => absurd h (Nat.not_lt.2 (Nat.le_add_left _ _)))
/-- with the pipeline's entries too. -/
theorem defs_same {F : FTy → Type} [FloatOps F] : Cert.Kernel.defs (F := F) = Cert.KernelIdeal.defs :=
  congrArg (Pipeline.defs (Cert.KernelIdeal.pcfgs (F := F))) defs₀_same

/-- The program over bit patterns: the same run proves it. -/
theorem frame_kernel : Cert.quiescent_Kernel := fun m ρ _ =>
  Eq.mp (congrArg (fun D => θ_run D (onTc (τ := Cert.KernelIdeal.τ) (Cert.KernelIdeal.main (F := Bits))) ⟨m, fun _ => 0, ρ⟩ _) defs_same.symm)
    (frame_run (F := Bits) m ρ)

/-- The reference has no semaphore, and its operations write neither argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof

end
-- ==== Proof.Value.lean ====
/-
What the ring leaves over the extended reals: the sum over the devices is one entry of the whole product.
-/
module

public import proofs.«01_k».proof.Proof.Run
public import Idealize.ShloMosaic.Lib.MatmulPlain
public import Idealize.ShloMosaic.Lib.Layout
public import Idealize.ShloMosaic.Lib.Pipeline.Value

@[expose] public section

noncomputable section

namespace Cert.RingProof

open Cert.KernelIdeal Cert.KernelIdeal.Gen
open Idealize.ShloMosaic Idealize.ShloMosaic.TcCoe Idealize.ShloMosaic.ValueIdx
open scoped BigOperators

/-! ## One device's product -/

/-- The zero word is read as zero. -/
theorem zero_word : Ideal.ofBits .f32 0x00000000#32 = 0 := by simp [Ideal.ofBits, Ideal.ieee]

/-- An entry of one product: the sum over the 256 columns of the rows. -/
theorem mm_at (x : Vec Ideal S128x256 .bf16) (w : Vec Ideal S256x1024 .bf16) (r : Fin 128) (q : Fin 1024) :
    mm (F := Ideal) x w (ix2 r q) = ∑ a : Fin 256, (x (ix2 r a) : EReal) * w (ix2 a q) := by
  unfold mm
  rw [shapeCast_self, shapeCast_self]
  refine (Ideal.matmul_plain_apply (M := 128) (K := 256) (N := 1024) (φ₁ := .bf16) (φ₂ := .bf16) none x w (constant S128x1024 .f32 0x00000000#32) r q).trans ?_
  show Ideal.ofBits .f32 0x00000000#32 + _ = _
  rw [zero_word, zero_add]

variable (A : (⟨2, ![4096, 4096]⟩ : Shape).Idx → EReal) (B : (⟨2, ![4096, 2048]⟩ : Shape).Idx → EReal)

/-- Column `a` of device `d`'s columns, counted in the whole matrix. -/
def col (d : Dev nD) (a : Fin 256) : Fin 4096 := ⟨d.val * 256 + a.val, by have h : d.val < 16 := d.isLt; have := a.isLt; omega⟩

/-- The part of entry `(p, q)` of the whole product that device `d`'s columns give. -/
def part (p : Fin 4096) (q : Fin 2048) (d : Dev nD) : EReal := ∑ a : Fin 256, A (ix2 p (col d a)) * B (ix2 (col d a) q)

/-- The sixteen parts are the whole entry. -/
theorem sum_part (p : Fin 4096) (q : Fin 2048) : ∑ d : Dev nD, part A B p q d = ∑ k : Fin 4096, A (ix2 p k) * B (ix2 k q) := by
  unfold part
  rw [← Fintype.sum_prod_type' (fun (d : Fin 16) (a : Fin 256) => A (ix2 p (col d a)) * B (ix2 (col d a) q))]
  refine Fintype.sum_equiv (finProdFinEquiv (m := 16) (n := 256)) _ _ fun y => ?_
  have h : col y.1 y.2 = finProdFinEquiv y := Fin.ext (by show y.1.val * 256 + y.2.val = y.2.val + 256 * y.1.val; omega)
  rw [h]

/-! ## Round the ring -/

/-- The device `j` places back. -/
def back (dir : Bool) (c : Dev nD) (j : ℕ) : Dev nD := (fun e => src e dir)^[j] c

/-- A device's source multiplies, in product `n`, the chunk the device multiplies in product `n + 1`. -/
theorem chunk_src (dir : Bool) (n : Fin 15) (e : Dev nD) : chunk (src e dir) dir n.val = chunk e dir (n.val + 1) := by
  revert dir n e; decide +kernel
/-- A device's last product is of its own chunk. -/
theorem chunk_last (dir : Bool) (c : Dev nD) : chunk c dir 15 = c.val := by revert dir c; decide +kernel
/-- The sixteen places back are sixteen devices. -/
theorem back_inj (dir : Bool) (c : Dev nD) : ∀ i j : Fin 16, back dir c i.val = back dir c j.val → i = j := by
  revert dir c; decide +kernel
/-- Going back by each of the sixteen places meets every device once. -/
theorem back_bijective (dir : Bool) (c : Dev nD) : Function.Bijective fun j : Fin 16 => back dir c j.val :=
  Finite.injective_iff_bijective.mp fun i j h => back_inj dir c i j h

variable (m : (ℓ : Loc nD τ sig) → Buf (Elt Ideal) ℓ)

/-- The staged copy of `x` is the argument. -/
theorem xstg_eq (d : Dev nD) : xstg m d = m ((d : Thread nD τ).loc main_arg0) :=
  Memref.read_access_unit_zero (Elt Ideal) main_arg0 (funext fun a => by fin_cases a <;> decide) _ _
/-- The staged copy of `w` is the argument. -/
theorem wstg_eq (d : Dev nD) : wstg m d = m ((d : Thread nD τ).loc main_arg1) :=
  Memref.read_access_unit_zero (Elt Ideal) main_arg1 (funext fun a => by fin_cases a <;> decide) _ _

/-- Each device's arguments are its part of the whole matrices. -/
def Agree : Prop := ∀ c : Dev nD,
  m ((c : Thread nD τ).loc main_arg0) = Layout.block ⟨2, ![4096, 256]⟩ ⟨2, ![4096, 4096]⟩ 1 16 c A
    ∧ m ((c : Thread nD τ).loc main_arg1) = Layout.block ⟨2, ![256, 2048]⟩ ⟨2, ![4096, 2048]⟩ 0 16 c B

variable {A B m}

/-- A device's product of the rows of chunk `c` is its part of the entries of those rows. -/
theorem dotV_at (h : Agree A B m) (c d : Dev nD) (dir : Bool) (t : Fin 16) (k : Fin 2) (hc : chunk d dir t.val = c.val) (r : Fin 128) (q : Fin 1024)
    (p : Fin 4096) (s : Fin 2048) (hp : p.val = 256 * c.val + 128 * k.val + r.val) (hs : s.val = half dir + q.val) :
    dotV m d dir t k (ix2 r q) = part A B p s d := by
  unfold dotV part
  rw [mm_at, xstg_eq, wstg_eq, (h d).1, (h d).2]
  refine Finset.sum_congr rfl fun a _ => congrArg₂ (· * ·) (congrArg A ?_) (congrArg B ?_)
  · refine Shape.idx_ext₂ ?_ ?_
    · show off d dir t.val k.val 0 + 1 * r.val = p.val
      rw [off_eq, hc, hp]
      show 256 * c.val + 128 * k.val + 1 * r.val = _
      omega
    · show d.val * 256 + (off d dir t.val k.val 1 + 1 * a.val) = d.val * 256 + a.val
      rw [off_eq]
      show d.val * 256 + (0 + 1 * a.val) = _
      omega
  · refine Shape.idx_ext₂ ?_ ?_
    · show d.val * 256 + (0 + 1 * a.val) = d.val * 256 + a.val
      omega
    · show half dir + 1 * q.val = s.val
      omega

/-- What landed, widened again, is what was sent. -/
theorem addUp_pack (u v : FVec Ideal S128x1024 .f32) (x : S128x1024.Idx) : addUp (F := Ideal) (pack u) v x = (u x : EReal) + v x := by
  exact congrArg (fun y : EReal => y + v x) (congrFun (shapeCast_shapeCast (fun i => (u i : EReal)) shapeCasts_S128x1024_S1x128x1024 shapeCasts_S1x128x1024_S128x1024) x)

/-- The running sum after `n` steps: the parts of the devices passed. -/
theorem sumV_at (h : Agree A B m) (c : Dev nD) (dir : Bool) (k : Fin 2) (r : Fin 128) (q : Fin 1024) (p : Fin 4096) (s : Fin 2048)
    (hp : p.val = 256 * c.val + 128 * k.val + r.val) (hs : s.val = half dir + q.val) :
    ∀ (n : ℕ) (hn : n < 16) (e : Dev nD), chunk e dir n = c.val →
      sumV m dir k n hn e (ix2 r q) = ∑ j ∈ Finset.range (n + 1), part A B p s (back dir e j)
  | 0, _, e, he => by
    rw [Finset.sum_range_one]
    exact dotV_at h c e dir 0 k he r q p s hp hs
  | n + 1, hn, e, he => by
    rw [Finset.sum_range_succ']
    refine (addUp_pack _ _ _).trans (congrArg₂ (· + ·) ?_ (dotV_at h c e dir ⟨n + 1, hn⟩ k he r q p s hp hs))
    exact sumV_at h c dir k r q p s hp hs n _ (src e dir) ((chunk_src dir ⟨n, by omega⟩ e).trans he)

/-- After the last step, the entry of the whole product. -/
theorem sumV_last (h : Agree A B m) (c : Dev nD) (dir : Bool) (k : Fin 2) (r : Fin 128) (q : Fin 1024) (p : Fin 4096) (s : Fin 2048)
    (hp : p.val = 256 * c.val + 128 * k.val + r.val) (hs : s.val = half dir + q.val) :
    sumV m dir k 15 (by omega) c (ix2 r q) = ∑ a : Fin 4096, A (ix2 p a) * B (ix2 a s) := by
  rw [sumV_at h c dir k r q p s hp hs 15 _ c (chunk_last dir c), Finset.sum_range, ← sum_part]
  exact (back_bijective dir c).sum_comp fun d => part A B p s d

/-- The whole product. -/
def prod (A : (⟨2, ![4096, 4096]⟩ : Shape).Idx → EReal) (B : (⟨2, ![4096, 2048]⟩ : Shape).Idx → EReal) (i : (⟨2, ![4096, 2048]⟩ : Shape).Idx) : EReal :=
  ∑ a : Fin 4096, A (ix2 (i 0) a) * B (ix2 a (i 1))

/-- What a device leaves is its block of rows of the whole product. -/
theorem outV_eq (h : Agree A B m) (c : Dev nD) : outV m c = Layout.block ⟨2, ![256, 2048]⟩ ⟨2, ![4096, 2048]⟩ 0 16 c (prod A B) := by
  funext i
  have i0 : (i 0).val < 256 := (i 0).isLt
  have i1 : (i 1).val < 2048 := (i 1).isLt
  have hi : ∀ b : Bool, decide (1024 ≤ (i 1).val) = b → (i 1).val = half b + (i 1).val % 1024 := fun b hb => by
    cases b
    · have := of_decide_eq_false hb
      show _ = 0 + _
      omega
    · have := of_decide_eq_true hb
      show _ = 1024 + _
      omega
  refine sumV_last h c _ _ ⟨(i 0).val % 128, Nat.mod_lt _ (by omega)⟩ ⟨(i 1).val % 1024, Nat.mod_lt _ (by omega)⟩ _ _ ?_ (hi _ rfl)
  show c.val * 256 + (i 0).val = 256 * c.val + 128 * ((i 0).val / 128) + (i 0).val % 128
  omega

end Cert.RingProof

end
-- ==== Proof.Algebraic.lean ====
/-
The value claim: each device ends with its block of rows of the product that the reference computes.
-/
module

public import proofs.«01_k».proof.Defs
public import proofs.«01_k».proof.Proof.Value
public import proofs.«01_k».proof.Proof.Gen.ReferenceIdeal.Run
public import Idealize.ShloMosaic.Lib.StackMember

@[expose] public section

noncomputable section

namespace Cert.RingProof

open Cert.KernelIdeal Cert.KernelIdeal.Gen
open Idealize.ShloMosaic Idealize.ShloMosaic.TcCoe Idealize.ShloMosaic.ValueIdx Idealize.SL.Sem
open scoped BigOperators

section
variable {F : FTy → Type} [FloatOps F]
variable (m : (ℓ : Loc nD τ sig) → Buf (Elt F) ℓ) (ρ : Dev nD → PrngReg)

/-- The result's one block starts at offset zero along every axis. -/
theorem offset_zero (t : Fin cfg0.N) : (fun a => win0_2.index t a * main_v1.ty.shape.size a) = fun _ => 0 := by
  rw [fin_N0 t]; exact funext fun a => by fin_cases a <;> decide

/-- The result's one block is the whole array. -/
theorem read_result (t : Fin cfg0.N) (G : main_v1.ty.Contents (Elt F)) : ((cfg0.win (2 : Fin 3)).blk t).view.read (Elt F) G = G :=
  Memref.read_access_unit_zero (Elt F) main_v1 (offset_zero t) _ G

/-- So after the run it holds what the body left. -/
theorem finalA_o (c : Dev nD) : finalA m ρ c (2 : Fin 3) = outV m c := by
  have h := (dats (F := F) m ρ 0 c).read_blk_arrAt (2 : Fin 3) (outV m c) (fun t _ => (read_result t (outV m c)).symm) t0_0 (flush0_2 t0_0)
  rw [read_result, read_result] at h
  exact h

end

/-- The reference's result is the whole product. -/
theorem reference_eq (A : FVec Ideal ⟨2, ![4096, 4096]⟩ .bf16) (B : FVec Ideal ⟨2, ![4096, 2048]⟩ .bf16) :
    extf .f32 (truncf .bf16 (Host.dotGeneral (F := Ideal) Cert.ReferenceIdeal.dot_S4096x4096_S4096x2048_S4096x2048_1_0_0_1_n_n none A B)
      Cert.ReferenceIdeal.Gen.bitsLt_bf16_f32) Cert.ReferenceIdeal.Gen.bitsLt_bf16_f32 = prod A B := by
  funext i
  have hi : i = ix2 (i 0) (i 1) := Shape.idx_ext₂ rfl rfl
  show Host.dotGeneral (F := Ideal) (DotDims.plain 4096 4096 2048) none A B i = _
  rw [hi]
  exact StackMember.dotGeneral_plain_apply none A B (i 0) (i 1)

/-- Each device's result is its block of the reference's. -/
theorem algebraic : Cert.algebraic_KernelIdeal_ReferenceIdeal := fun m ρ m' ρ' _ hag =>
  ⟨prod (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨((h.1 c (2 : Fin 3)).trans (finalA_o m ρ c)).trans (outV_eq hag c),
        (h.1 c (0 : Fin 3)).trans (finalA_x m ρ c), (h.1 c (1 : Fin 3)).trans (finalA_w m ρ c)⟩) (run_main (F := Ideal) m ρ),
    (θ_run Cert.ReferenceIdeal.defs _ _).mono (fun _ h => ⟨(h 0).1.trans (reference_eq _ _), (h 0).2⟩) (Cert.ReferenceIdeal.Value.run (F := Ideal) m' ρ')⟩

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims: the frames (Proof/Frames.lean), nothing rewritten, and the values (Proof/Algebraic.lean). -/
theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial, Cert.RingProof.algebraic⟩

end Cert.Proof

end
